-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_fbank [hPre_is_fbank : Cert.Pre_is_fbank.Facts] (m : (ℓ : Loc Cert.KernelIdeal.nD Cert.KernelIdeal.τ Cert.KernelIdeal.sig) → Buf (Elt Ideal) ℓ) : Prop :=
  ∀ c : Dev Cert.KernelIdeal.nD,
    (Cert.Pre_is_fbank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_fbank [hPre_is_fbank : Cert.Pre_is_fbank.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_fbank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_is_fbank [hKernelIdeal : Cert.KernelIdeal.Facts] [hPre_is_fbank : Cert.Pre_is_fbank.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_fbank m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_is_fbank [hReferenceIdeal : Cert.ReferenceIdeal.Facts] [hPre_is_fbank : Cert.Pre_is_fbank.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_fbank m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_is_fbank [hKernelIdeal : Cert.KernelIdeal.Facts] [hReferenceIdeal : Cert.ReferenceIdeal.Facts] [hPre_is_fbank : Cert.Pre_is_fbank.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_fbank m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_is_fbank : Cert.Pre_is_fbank.Facts),
    quiescent_Kernel (hKernel := hKernel)
    ∧ quiescent_KernelIdeal (hKernelIdeal := hKernelIdeal)
    ∧ quiescent_KernelIdeal_pre_is_fbank (hKernelIdeal := hKernelIdeal) (hPre_is_fbank := hPre_is_fbank)
    ∧ quiescent_ReferenceIdeal (hReferenceIdeal := hReferenceIdeal)
    ∧ quiescent_ReferenceIdeal_pre_is_fbank (hReferenceIdeal := hReferenceIdeal) (hPre_is_fbank := hPre_is_fbank)
    ∧ preserves_Kernel_KernelIdeal
    ∧ algebraic_KernelIdeal_ReferenceIdeal_pre_is_fbank (hKernelIdeal := hKernelIdeal) (hReferenceIdeal := hReferenceIdeal) (hPre_is_fbank := hPre_is_fbank)
-- ==== Pre_is_fbank.lean ====
abbrev S2048x1024 : Shape := ⟨2, ![2048, 1024]⟩
abbrev S56x128 : Shape := ⟨2, ![56, 128]⟩
abbrev S56x128x1024 : Shape := ⟨3, ![56, 128, 1024]⟩
abbrev S_ : Shape := ⟨0, ![]⟩

class Facts : Prop where
  bcast_S_S56x128x1024 : S_.BroadcastsInDim S56x128x1024 (![] : Fin 0 → Fin S56x128x1024.rank)
  reducesTo_S56x128x1024_S_d0_1_2 : S56x128x1024.ReducesTo [0, 1, 2] S_
  h_S_ : 0 < S_.numel

variable [Facts]

def fn_where {F : FTy → Type} [FloatOps F] (arg0 : IVec S56x128x1024 1) (arg1 : IVec S_ 32) (arg2 : IVec S56x128x1024 32) : IVec S56x128x1024 32 :=
  let v0 : IVec S_ 32 := id arg1
  let v1 : IVec S56x128x1024 32 := broadcastInDim S56x128x1024 ![] bcast_S_S56x128x1024 v0
  let v2 : IVec S56x128x1024 32 := select arg0 v1 arg2
  v2

def fn_where_0 {F : FTy → Type} [FloatOps F] (arg0 : IVec S56x128x1024 1) (arg1 : FVec F S_ .f32) (arg2 : FVec F S_ .f32) : FVec F S56x128x1024 .f32 :=
  let v0 : FVec F S56x128x1024 .f32 := broadcastInDim S56x128x1024 ![] bcast_S_S56x128x1024 arg1
  let v1 : FVec F S56x128x1024 .f32 := broadcastInDim S56x128x1024 ![] bcast_S_S56x128x1024 arg2
  let v2 : FVec F S56x128x1024 .f32 := select arg0 v0 v1
  v2

def fn {F : FTy → Type} [FloatOps F] (main_arg0 : FVec F S2048x1024 .f32) (main_arg1 : FVec F S56x128 .f32) (main_arg2 : FVec F S56x128x1024 .f32) : IVec S_ 1 :=
  let main_v0 : IVec S56x128x1024 32 := iotaInDim S56x128x1024 32 0
  let main_v1 : IVec S56x128x1024 32 := iotaInDim S56x128x1024 32 1
  let main_v2 : IVec S56x128x1024 32 := iotaInDim S56x128x1024 32 2
  let main_c : IVec S_ 32 := constantI S_ 32 2#32
  let main_v3 : IVec S56x128x1024 32 := broadcastInDim S56x128x1024 ![] bcast_S_S56x128x1024 main_c
  let main_v4 : IVec S56x128x1024 32 := Host.shrui main_v0 main_v3
  let main_c_0 : IVec S_ 32 := constantI S_ 32 13#32
  let main_v5 : IVec S56x128x1024 32 := broadcastInDim S56x128x1024 ![] bcast_S_S56x128x1024 main_c_0
  let main_v6 : IVec S56x128x1024 1 := cmpi .eq main_v4 main_v5
  let main_c_1 : IVec S_ 32 := constantI S_ 32 64#32
  let main_v7 : IVec S56x128x1024 32 := broadcastInDim S56x128x1024 ![] bcast_S_S56x128x1024 main_c_1
  let main_v8 : IVec S56x128x1024 32 := muli main_v7 main_v4
  let main_c_2 : IVec S_ 32 := constantI S_ 32 896#32
  let main_v9 : IVec S56x128x1024 32 := fn_where (F := F) main_v6 main_c_2 main_v8
  let main_v10 : IVec S56x128x1024 32 := addi main_v9 main_v1
  let main_v11 : IVec S56x128x1024 1 := cmpi .eq main_v2 main_v10
  let main_cst : FVec F S_ .f32 := constant S_ .f32 0x3F800000#32
  let main_cst_3 : FVec F S_ .f32 := constant S_ .f32 0x00000000#32
  let main_v12 : FVec F S56x128x1024 .f32 := fn_where_0 (F := F) main_v11 main_cst main_cst_3
  let main_v13 : FVec F S56x128x1024 .f32 := id main_v12
  let main_v14 : IVec S56x128x1024 1 := cmpf .oeq main_arg2 main_v13
  let main_c_4 : IVec S_ 1 := constantI S_ 1 1#1
  let main_v15 : IVec S_ 1 := (fun x v => Host.reduce IntOp.andi x v reducesTo_S56x128x1024_S_d0_1_2 h_S_) main_v14 main_c_4
  main_v15
-- ==== Kernel.lean ====
abbrev S2048x1024 : Shape := ⟨2, ![2048, 1024]⟩
abbrev S56x128 : Shape := ⟨2, ![56, 128]⟩
abbrev S56x128x1024 : Shape := ⟨3, ![56, 128, 1024]⟩
abbrev S114688 : Shape := ⟨1, ![114688]⟩
abbrev S64x1024 : Shape := ⟨2, ![64, 1024]⟩
abbrev S3584 : Shape := ⟨1, ![3584]⟩
abbrev S256 : Shape := ⟨1, ![256]⟩
abbrev S_ : Shape := ⟨0, ![]⟩
abbrev S16 : Shape := ⟨1, ![16]⟩
abbrev S1x16 : Shape := ⟨2, ![1, 16]⟩
abbrev S2048x56 : Shape := ⟨2, ![2048, 56]⟩

abbrev nBuf : Table → Nat
  | .hbm => 5
  | .local .scVector .vmem => 7
  | _ => 0

abbrev bufTy : (tb : Table) → Fin (nBuf tb) → BufTy
  | .hbm, ⟨0, _⟩ => ⟨S2048x1024, .f32⟩
  | .hbm, ⟨1, _⟩ => ⟨S56x128, .f32⟩
  | .hbm, ⟨2, _⟩ => ⟨S56x128x1024, .f32⟩
  | .hbm, ⟨3, _⟩ => ⟨S114688, .f32⟩
  | .hbm, ⟨4, _⟩ => ⟨S2048x56, .f32⟩
  | .local .scVector .vmem, ⟨0, _⟩ => ⟨S64x1024, .f32⟩
  | .local .scVector .vmem, ⟨1, _⟩ => ⟨S56x128, .f32⟩
  | .local .scVector .vmem, ⟨2, _⟩ => ⟨S3584, .f32⟩
  | .local .scVector .vmem, ⟨3, _⟩ => ⟨S256, .f32⟩
  | .local .scVector .vmem, ⟨4, _⟩ => ⟨S256, .f32⟩
  | .local .scVector .vmem, ⟨5, _⟩ => ⟨S256, .f32⟩
  | .local .scVector .vmem, ⟨6, _⟩ => ⟨S256, .f32⟩
  | _, _ => ⟨S2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_2_r0 : BitVec 32 := 0#32
  ![v2.toNat, 0]
@[reducible] def k0_t1_loop : Scf.Loop 32 :=
  let c0_i32 : BitVec 32 := 0#32
  let c56_i32 : BitVec 32 := 56#32
  let v4 : BitVec 32 := Scalar.addi c0_i32 c56_i32
  let c1_i32 : BitVec 32 := 1#32
  ⟨c0_i32, v4, c1_i32⟩
def k0_off2 (k0_t1 : Fin k0_t1_loop.trips) (c0_i32_16 : BitVec 32) : Fin 2 → Nat :=
  let c4_i32_15 : BitVec 32 := 4#32
  let c0_i32 : BitVec 32 := 0#32
  let c1_i32 : BitVec 32 := 1#32
  let arg12 : BitVec 32 := Scf.iv c0_i32 c1_i32 k0_t1
  let c0_i32_2 : BitVec 32 := 0#32
  let v7 : BitVec 1 := Scalar.cmpi .sgt arg12 c0_i32_2
  let v8 : BitVec 32 := Scalar.extui v7
  let c0_i32_3 : BitVec 32 := 0#32
  let v9 : BitVec 1 := Scalar.cmpi .slt arg12 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg12 c4_i32
  let c0_i32_6 : BitVec 32 := 0#32
  let v19 : BitVec 1 := Scalar.cmpi .ne v18 c0_i32_6
  let v20 : BitVec 1 := Scalar.andi v17 v19
  let v6 : BitVec 32 := Scalar.divsi arg12 c4_i32
  let c1_i32_7 : BitVec 32 := 1#32
  let v21 : BitVec 32 := Scalar.subi v6 c1_i32_7
  let v22 : BitVec 32 := Scalar.select v20 v21 v6
  let v36 : BitVec 32 := Scalar.muli c4_i32_15 v22
  let v37 : BitVec 32 := Scalar.addi v36 c0_i32_16
  let v38 : Index := Scalar.indexCast v37
  let c0 : Index := 0#32
  ![v38.toNat, 0]
def k0_off3 (k0_t1 : Fin k0_t1_loop.trips) (c0_i32_18 : BitVec 32) : Fin 2 → Nat :=
  let c4_i32_17 : BitVec 32 := 4#32
  let c0_i32 : BitVec 32 := 0#32
  let c1_i32 : BitVec 32 := 1#32
  let arg12 : BitVec 32 := Scf.iv c0_i32 c1_i32 k0_t1
  let c0_i32_2 : BitVec 32 := 0#32
  let v7 : BitVec 1 := Scalar.cmpi .sgt arg12 c0_i32_2
  let v8 : BitVec 32 := Scalar.extui v7
  let c0_i32_3 : BitVec 32 := 0#32
  let v9 : BitVec 1 := Scalar.cmpi .slt arg12 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg12 c4_i32
  let c0_i32_6 : BitVec 32 := 0#32
  let v19 : BitVec 1 := Scalar.cmpi .ne v18 c0_i32_6
  let v20 : BitVec 1 := Scalar.andi v17 v19
  let v6 : BitVec 32 := Scalar.divsi arg12 c4_i32
  let c1_i32_7 : BitVec 32 := 1#32
  let v21 : BitVec 32 := Scalar.subi v6 c1_i32_7
  let v22 : BitVec 32 := Scalar.select v20 v21 v6
  let v40 : BitVec 32 := Scalar.muli c4_i32_17 v22
  let v41 : BitVec 32 := Scalar.addi v40 c0_i32_18
  let v42 : Index := Scalar.indexCast v41
  let c16 : Index := 16#32
  ![v42.toNat, 16]
def k0_off4 (k0_t1 : Fin k0_t1_loop.trips) (c0_i32_20 : BitVec 32) : Fin 2 → Nat :=
  let c4_i32_19 : BitVec 32 := 4#32
  let c0_i32 : BitVec 32 := 0#32
  let c1_i32 : BitVec 32 := 1#32
  let arg12 : BitVec 32 := Scf.iv c0_i32 c1_i32 k0_t1
  let c0_i32_2 : BitVec 32 := 0#32
  let v7 : BitVec 1 := Scalar.cmpi .sgt arg12 c0_i32_2
  let v8 : BitVec 32 := Scalar.extui v7
  let c0_i32_3 : BitVec 32 := 0#32
  let v9 : BitVec 1 := Scalar.cmpi .slt arg12 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg12 c4_i32
  let c0_i32_6 : BitVec 32 := 0#32
  let v19 : BitVec 1 := Scalar.cmpi .ne v18 c0_i32_6
  let v20 : BitVec 1 := Scalar.andi v17 v19
  let v6 : BitVec 32 := Scalar.divsi arg12 c4_i32
  let c1_i32_7 : BitVec 32 := 1#32
  let v21 : BitVec 32 := Scalar.subi v6 c1_i32_7
  let v22 : BitVec 32 := Scalar.select v20 v21 v6
  let v44 : BitVec 32 := Scalar.muli c4_i32_19 v22
  let v45 : BitVec 32 := Scalar.addi v44 c0_i32_20
  let v46 : Index := Scalar.indexCast v45
  let c32 : Index := 32#32
  ![v46.toNat, 32]
def k0_off5 (k0_t1 : Fin k0_t1_loop.trips) (c0_i32_22 : BitVec 32) : Fin 2 → Nat :=
  let c4_i32_21 : BitVec 32 := 4#32
  let c0_i32 : BitVec 32 := 0#32
  let c1_i32 : BitVec 32 := 1#32
  let arg12 : BitVec 32 := Scf.iv c0_i32 c1_i32 k0_t1
  let c0_i32_2 : BitVec 32 := 0#32
  let v7 : BitVec 1 := Scalar.cmpi .sgt arg12 c0_i32_2
  let v8 : BitVec 32 := Scalar.extui v7
  let c0_i32_3 : BitVec 32 := 0#32
  let v9 : BitVec 1 := Scalar.cmpi .slt arg12 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg12 c4_i32
  let c0_i32_6 : BitVec 32 := 0#32
  let v19 : BitVec 1 := Scalar.cmpi .ne v18 c0_i32_6
  let v20 : BitVec 1 := Scalar.andi v17 v19
  let v6 : BitVec 32 := Scalar.divsi arg12 c4_i32
  let c1_i32_7 : BitVec 32 := 1#32
  let v21 : BitVec 32 := Scalar.subi v6 c1_i32_7
  let v22 : BitVec 32 := Scalar.select v20 v21 v6
  let v48 : BitVec 32 := Scalar.muli c4_i32_21 v22
  let v49 : BitVec 32 := Scalar.addi v48 c0_i32_22
  let v50 : Index := Scalar.indexCast v49
  let c48 : Index := 48#32
  ![v50.toNat, 48]
def k0_off6 (k0_t1 : Fin k0_t1_loop.trips) (c0_i32_24 : BitVec 32) : Fin 2 → Nat :=
  let c4_i32_23 : BitVec 32 := 4#32
  let c0_i32 : BitVec 32 := 0#32
  let c1_i32 : BitVec 32 := 1#32
  let arg12 : BitVec 32 := Scf.iv c0_i32 c1_i32 k0_t1
  let c0_i32_2 : BitVec 32 := 0#32
  let v7 : BitVec 1 := Scalar.cmpi .sgt arg12 c0_i32_2
  let v8 : BitVec 32 := Scalar.extui v7
  let c0_i32_3 : BitVec 32 := 0#32
  let v9 : BitVec 1 := Scalar.cmpi .slt arg12 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg12 c4_i32
  let c0_i32_6 : BitVec 32 := 0#32
  let v19 : BitVec 1 := Scalar.cmpi .ne v18 c0_i32_6
  let v20 : BitVec 1 := Scalar.andi v17 v19
  let v6 : BitVec 32 := Scalar.divsi arg12 c4_i32
  let c1_i32_7 : BitVec 32 := 1#32
  let v21 : BitVec 32 := Scalar.subi v6 c1_i32_7
  let v22 : BitVec 32 := Scalar.select v20 v21 v6
  let v52 : BitVec 32 := Scalar.muli c4_i32_23 v22
  let v53 : BitVec 32 := Scalar.addi v52 c0_i32_24
  let v54 : Index := Scalar.indexCast v53
  let c64 : Index := 64#32
  ![v54.toNat, 64]
def k0_off7 (k0_t1 : Fin k0_t1_loop.trips) (c0_i32_26 : BitVec 32) : Fin 2 → Nat :=
  let c4_i32_25 : BitVec 32 := 4#32
  let c0_i32 : BitVec 32 := 0#32
  let c1_i32 : BitVec 32 := 1#32
  let arg12 : BitVec 32 := Scf.iv c0_i32 c1_i32 k0_t1
  let c0_i32_2 : BitVec 32 := 0#32
  let v7 : BitVec 1 := Scalar.cmpi .sgt arg12 c0_i32_2
  let v8 : BitVec 32 := Scalar.extui v7
  let c0_i32_3 : BitVec 32 := 0#32
  let v9 : BitVec 1 := Scalar.cmpi .slt arg12 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg12 c4_i32
  let c0_i32_6 : BitVec 32 := 0#32
  let v19 : BitVec 1 := Scalar.cmpi .ne v18 c0_i32_6
  let v20 : BitVec 1 := Scalar.andi v17 v19
  let v6 : BitVec 32 := Scalar.divsi arg12 c4_i32
  let c1_i32_7 : BitVec 32 := 1#32
  let v21 : BitVec 32 := Scalar.subi v6 c1_i32_7
  let v22 : BitVec 32 := Scalar.select v20 v21 v6
  let v56 : BitVec 32 := Scalar.muli c4_i32_25 v22
  let v57 : BitVec 32 := Scalar.addi v56 c0_i32_26
  let v58 : Index := Scalar.indexCast v57
  let c80 : Index := 80#32
  ![v58.toNat, 80]
def k0_off8 (k0_t1 : Fin k0_t1_loop.trips) (c0_i32_28 : BitVec 32) : Fin 2 → Nat :=
  let c4_i32_27 : BitVec 32 := 4#32
  let c0_i32 : BitVec 32 := 0#32
  let c1_i32 : BitVec 32 := 1#32
  let arg12 : BitVec 32 := Scf.iv c0_i32 c1_i32 k0_t1
  let c0_i32_2 : BitVec 32 := 0#32
  let v7 : BitVec 1 := Scalar.cmpi .sgt arg12 c0_i32_2
  let v8 : BitVec 32 := Scalar.extui v7
  let c0_i32_3 : BitVec 32 := 0#32
  let v9 : BitVec 1 := Scalar.cmpi .slt arg12 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg12 c4_i32
  let c0_i32_6 : BitVec 32 := 0#32
  let v19 : BitVec 1 := Scalar.cmpi .ne v18 c0_i32_6
  let v20 : BitVec 1 := Scalar.andi v17 v19
  let v6 : BitVec 32 := Scalar.divsi arg12 c4_i32
  let c1_i32_7 : BitVec 32 := 1#32
  let v21 : BitVec 32 := Scalar.subi v6 c1_i32_7
  let v22 : BitVec 32 := Scalar.select v20 v21 v6
  let v60 : BitVec 32 := Scalar.muli c4_i32_27 v22
  let v61 : BitVec 32 := Scalar.addi v60 c0_i32_28
  let v62 : Index := Scalar.indexCast v61
  let c96 : Index := 96#32
  ![v62.toNat, 96]
def k0_off9 (k0_t1 : Fin k0_t1_loop.trips) (c0_i32_30 : BitVec 32) : Fin 2 → Nat :=
  let c4_i32_29 : BitVec 32 := 4#32
  let c0_i32 : BitVec 32 := 0#32
  let c1_i32 : BitVec 32 := 1#32
  let arg12 : BitVec 32 := Scf.iv c0_i32 c1_i32 k0_t1
  let c0_i32_2 : BitVec 32 := 0#32
  let v7 : BitVec 1 := Scalar.cmpi .sgt arg12 c0_i32_2
  let v8 : BitVec 32 := Scalar.extui v7
  let c0_i32_3 : BitVec 32 := 0#32
  let v9 : BitVec 1 := Scalar.cmpi .slt arg12 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg12 c4_i32
  let c0_i32_6 : BitVec 32 := 0#32
  let v19 : BitVec 1 := Scalar.cmpi .ne v18 c0_i32_6
  let v20 : BitVec 1 := Scalar.andi v17 v19
  let v6 : BitVec 32 := Scalar.divsi arg12 c4_i32
  let c1_i32_7 : BitVec 32 := 1#32
  let v21 : BitVec 32 := Scalar.subi v6 c1_i32_7
  let v22 : BitVec 32 := Scalar.select v20 v21 v6
  let v64 : BitVec 32 := Scalar.muli c4_i32_29 v22
  let v65 : BitVec 32 := Scalar.addi v64 c0_i32_30
  let v66 : Index := Scalar.indexCast v65
  let c112 : Index := 112#32
  ![v66.toNat, 112]
def k0_off10 (k0_t1 : Fin k0_t1_loop.trips) (c0_i32_102 : BitVec 32) (c0_i32_103 : BitVec 32) : Fin 2 → Nat :=
  let c0_i32 : BitVec 32 := 0#32
  let c1_i32 : BitVec 32 := 1#32
  let arg12 : BitVec 32 := Scf.iv c0_i32 c1_i32 k0_t1
  let c4_i32_8 : BitVec 32 := 4#32
  let c0_i32_9 : BitVec 32 := 0#32
  let v23 : BitVec 1 := Scalar.cmpi .eq c4_i32_8 c0_i32_9
  let c1_i32_10 : BitVec 32 := 1#32
  let v24 : BitVec 32 := Scalar.select v23 c1_i32_10 c4_i32_8
  let v25 : BitVec 32 := Scalar.remsi arg12 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let c16_i32 : BitVec 32 := 16#32
  let v164 : BitVec 32 := Scalar.muli v32 c16_i32
  let v165 : BitVec 32 := Scalar.addi v164 c0_i32_102
  let v167 : Index := Scalar.indexCast v165
  let c0_i32_2 : BitVec 32 := 0#32
  let v7 : BitVec 1 := Scalar.cmpi .sgt arg12 c0_i32_2
  let v8 : BitVec 32 := Scalar.extui v7
  let c0_i32_3 : BitVec 32 := 0#32
  let v9 : BitVec 1 := Scalar.cmpi .slt arg12 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg12 c4_i32
  let c0_i32_6 : BitVec 32 := 0#32
  let v19 : BitVec 1 := Scalar.cmpi .ne v18 c0_i32_6
  let v20 : BitVec 1 := Scalar.andi v17 v19
  let v6 : BitVec 32 := Scalar.divsi arg12 c4_i32
  let c1_i32_7 : BitVec 32 := 1#32
  let v21 : BitVec 32 := Scalar.subi v6 c1_i32_7
  let v22 : BitVec 32 := Scalar.select v20 v21 v6
  let c13_i32 : BitVec 32 := 13#32
  let v33 : BitVec 1 := Scalar.cmpi .eq v22 c13_i32
  let c896_i32 : BitVec 32 := 896#32
  let c64_i32_14 : BitVec 32 := 64#32
  let v34 : BitVec 32 := Scalar.muli c64_i32_14 v22
  let v35 : BitVec 32 := Scalar.select v33 c896_i32 v34
  let v166 : BitVec 32 := Scalar.addi v35 c0_i32_103
  let v168 : Index := Scalar.indexCast v166
  ![v167.toNat, v168.toNat]

def k0_chk1 (v1830 : IVec S16 32) : Prop :=
  (∀ a x, ((![v1830] : Fin 1 → IVec S16 32) a x).toNat < S256.size a)
theorem k0_idx1_inb : ∀ (v1830 : IVec S16 32) (k0_hw1 : k0_chk1 v1830), ∀ a x, ((![v1830] : Fin 1 → IVec S16 32) a x).toNat < S256.size a := fun v1830 k0_hw1 => k0_hw1

def k0_chk2 (v1835 : IVec S16 32) : Prop :=
  (∀ a x, ((![v1835] : Fin 1 → IVec S16 32) a x).toNat < S256.size a)
theorem k0_idx2_inb : ∀ (v1835 : IVec S16 32) (k0_hw2 : k0_chk2 v1835), ∀ a x, ((![v1835] : Fin 1 → IVec S16 32) a x).toNat < S256.size a := fun v1835 k0_hw2 => k0_hw2

def k0_chk3 (v1841 : IVec S16 32) : Prop :=
  (∀ a x, ((![v1841] : Fin 1 → IVec S16 32) a x).toNat < S256.size a)
theorem k0_idx3_inb : ∀ (v1841 : IVec S16 32) (k0_hw3 : k0_chk3 v1841), ∀ a x, ((![v1841] : Fin 1 → IVec S16 32) a x).toNat < S256.size a := fun v1841 k0_hw3 => k0_hw3

def k0_chk4 (v1847 : IVec S16 32) : Prop :=
  (∀ a x, ((![v1847] : Fin 1 → IVec S16 32) a x).toNat < S256.size a)
theorem k0_idx4_inb : ∀ (v1847 : IVec S16 32) (k0_hw4 : k0_chk4 v1847), ∀ a x, ((![v1847] : Fin 1 → IVec S16 32) a x).toNat < S256.size a := fun v1847 k0_hw4 => k0_hw4

def k0_chk5 (v1853 : IVec S16 32) : Prop :=
  (∀ a x, ((![v1853] : Fin 1 → IVec S16 32) a x).toNat < S256.size a)
theorem k0_idx5_inb : ∀ (v1853 : IVec S16 32) (k0_hw5 : k0_chk5 v1853), ∀ a x, ((![v1853] : Fin 1 → IVec S16 32) a x).toNat < S256.size a := fun v1853 k0_hw5 => k0_hw5

def k0_chk6 (v1859 : IVec S16 32) : Prop :=
  (∀ a x, ((![v1859] : Fin 1 → IVec S16 32) a x).toNat < S256.size a)
theorem k0_idx6_inb : ∀ (v1859 : IVec S16 32) (k0_hw6 : k0_chk6 v1859), ∀ a x, ((![v1859] : Fin 1 → IVec S16 32) a x).toNat < S256.size a := fun v1859 k0_hw6 => k0_hw6

def k0_chk7 (v1865 : IVec S16 32) : Prop :=
  (∀ a x, ((![v1865] : Fin 1 → IVec S16 32) a x).toNat < S256.size a)
theorem k0_idx7_inb : ∀ (v1865 : IVec S16 32) (k0_hw7 : k0_chk7 v1865), ∀ a x, ((![v1865] : Fin 1 → IVec S16 32) a x).toNat < S256.size a := fun v1865 k0_hw7 => k0_hw7

def k0_chk8 (v1871 : IVec S16 32) : Prop :=
  (∀ a x, ((![v1871] : Fin 1 → IVec S16 32) a x).toNat < S256.size a)
theorem k0_idx8_inb : ∀ (v1871 : IVec S16 32) (k0_hw8 : k0_chk8 v1871), ∀ a x, ((![v1871] : Fin 1 → IVec S16 32) a x).toNat < S256.size a := fun v1871 k0_hw8 => k0_hw8

def k0_chk9 (v1877 : IVec S16 32) : Prop :=
  (∀ a x, ((![v1877] : Fin 1 → IVec S16 32) a x).toNat < S256.size a)
theorem k0_idx9_inb : ∀ (v1877 : IVec S16 32) (k0_hw9 : k0_chk9 v1877), ∀ a x, ((![v1877] : Fin 1 → IVec S16 32) a x).toNat < S256.size a := fun v1877 k0_hw9 => k0_hw9

def k0_chk10 (v1883 : IVec S16 32) : Prop :=
  (∀ a x, ((![v1883] : Fin 1 → IVec S16 32) a x).toNat < S256.size a)
theorem k0_idx10_inb : ∀ (v1883 : IVec S16 32) (k0_hw10 : k0_chk10 v1883), ∀ a x, ((![v1883] : Fin 1 → IVec S16 32) a x).toNat < S256.size a := fun v1883 k0_hw10 => k0_hw10

def k0_chk11 (v1889 : IVec S16 32) : Prop :=
  (∀ a x, ((![v1889] : Fin 1 → IVec S16 32) a x).toNat < S256.size a)
theorem k0_idx11_inb : ∀ (v1889 : IVec S16 32) (k0_hw11 : k0_chk11 v1889), ∀ a x, ((![v1889] : Fin 1 → IVec S16 32) a x).toNat < S256.size a := fun v1889 k0_hw11 => k0_hw11

def k0_chk12 (v1895 : IVec S16 32) : Prop :=
  (∀ a x, ((![v1895] : Fin 1 → IVec S16 32) a x).toNat < S256.size a)
theorem k0_idx12_inb : ∀ (v1895 : IVec S16 32) (k0_hw12 : k0_chk12 v1895), ∀ a x, ((![v1895] : Fin 1 → IVec S16 32) a x).toNat < S256.size a := fun v1895 k0_hw12 => k0_hw12

def k0_chk13 (v1901 : IVec S16 32) : Prop :=
  (∀ a x, ((![v1901] : Fin 1 → IVec S16 32) a x).toNat < S256.size a)
theorem k0_idx13_inb : ∀ (v1901 : IVec S16 32) (k0_hw13 : k0_chk13 v1901), ∀ a x, ((![v1901] : Fin 1 → IVec S16 32) a x).toNat < S256.size a := fun v1901 k0_hw13 => k0_hw13

def k0_chk14 (v1907 : IVec S16 32) : Prop :=
  (∀ a x, ((![v1907] : Fin 1 → IVec S16 32) a x).toNat < S256.size a)
theorem k0_idx14_inb : ∀ (v1907 : IVec S16 32) (k0_hw14 : k0_chk14 v1907), ∀ a x, ((![v1907] : Fin 1 → IVec S16 32) a x).toNat < S256.size a := fun v1907 k0_hw14 => k0_hw14

def k0_chk15 (v1913 : IVec S16 32) : Prop :=
  (∀ a x, ((![v1913] : Fin 1 → IVec S16 32) a x).toNat < S256.size a)
theorem k0_idx15_inb : ∀ (v1913 : IVec S16 32) (k0_hw15 : k0_chk15 v1913), ∀ a x, ((![v1913] : Fin 1 → IVec S16 32) a x).toNat < S256.size a := fun v1913 k0_hw15 => k0_hw15

def k0_chk16 (v1919 : IVec S16 32) : Prop :=
  (∀ a x, ((![v1919] : Fin 1 → IVec S16 32) a x).toNat < S256.size a)
theorem k0_idx16_inb : ∀ (v1919 : IVec S16 32) (k0_hw16 : k0_chk16 v1919), ∀ a x, ((![v1919] : Fin 1 → IVec S16 32) a x).toNat < S256.size a := fun v1919 k0_hw16 => k0_hw16

def k0_chk17 (v1929 : IVec S16 32) : Prop :=
  (∀ a x, ((![v1929] : Fin 1 → IVec S16 32) a x).toNat < S3584.size a)
theorem k0_idx17_inb : ∀ (v1929 : IVec S16 32) (k0_hw17 : k0_chk17 v1929), ∀ a x, ((![v1929] : Fin 1 → IVec S16 32) a x).toNat < S3584.size a := fun v1929 k0_hw17 => k0_hw17

def k0_chk18 (v1931 : IVec S16 32) : Prop :=
  (∀ a x, ((![v1931] : Fin 1 → IVec S16 32) a x).toNat < S256.size a)
theorem k0_idx18_inb : ∀ (v1931 : IVec S16 32) (k0_hw18 : k0_chk18 v1931), ∀ a x, ((![v1931] : Fin 1 → IVec S16 32) a x).toNat < S256.size a := fun v1931 k0_hw18 => k0_hw18

def k0_chk19 (v1936 : IVec S16 32) : Prop :=
  (∀ a x, ((![v1936] : Fin 1 → IVec S16 32) a x).toNat < S256.size a)
theorem k0_idx19_inb : ∀ (v1936 : IVec S16 32) (k0_hw19 : k0_chk19 v1936), ∀ a x, ((![v1936] : Fin 1 → IVec S16 32) a x).toNat < S256.size a := fun v1936 k0_hw19 => k0_hw19

def k0_chk20 (v1942 : IVec S16 32) : Prop :=
  (∀ a x, ((![v1942] : Fin 1 → IVec S16 32) a x).toNat < S256.size a)
theorem k0_idx20_inb : ∀ (v1942 : IVec S16 32) (k0_hw20 : k0_chk20 v1942), ∀ a x, ((![v1942] : Fin 1 → IVec S16 32) a x).toNat < S256.size a := fun v1942 k0_hw20 => k0_hw20

def k0_chk21 (v1948 : IVec S16 32) : Prop :=
  (∀ a x, ((![v1948] : Fin 1 → IVec S16 32) a x).toNat < S256.size a)
theorem k0_idx21_inb : ∀ (v1948 : IVec S16 32) (k0_hw21 : k0_chk21 v1948), ∀ a x, ((![v1948] : Fin 1 → IVec S16 32) a x).toNat < S256.size a := fun v1948 k0_hw21 => k0_hw21

def k0_chk22 (v1954 : IVec S16 32) : Prop :=
  (∀ a x, ((![v1954] : Fin 1 → IVec S16 32) a x).toNat < S256.size a)
theorem k0_idx22_inb : ∀ (v1954 : IVec S16 32) (k0_hw22 : k0_chk22 v1954), ∀ a x, ((![v1954] : Fin 1 → IVec S16 32) a x).toNat < S256.size a := fun v1954 k0_hw22 => k0_hw22

def k0_chk23 (v1960 : IVec S16 32) : Prop :=
  (∀ a x, ((![v1960] : Fin 1 → IVec S16 32) a x).toNat < S256.size a)
theorem k0_idx23_inb : ∀ (v1960 : IVec S16 32) (k0_hw23 : k0_chk23 v1960), ∀ a x, ((![v1960] : Fin 1 → IVec S16 32) a x).toNat < S256.size a := fun v1960 k0_hw23 => k0_hw23

def k0_chk24 (v1966 : IVec S16 32) : Prop :=
  (∀ a x, ((![v1966] : Fin 1 → IVec S16 32) a x).toNat < S256.size a)
theorem k0_idx24_inb : ∀ (v1966 : IVec S16 32) (k0_hw24 : k0_chk24 v1966), ∀ a x, ((![v1966] : Fin 1 → IVec S16 32) a x).toNat < S256.size a := fun v1966 k0_hw24 => k0_hw24

def k0_chk25 (v1972 : IVec S16 32) : Prop :=
  (∀ a x, ((![v1972] : Fin 1 → IVec S16 32) a x).toNat < S256.size a)
theorem k0_idx25_inb : ∀ (v1972 : IVec S16 32) (k0_hw25 : k0_chk25 v1972), ∀ a x, ((![v1972] : Fin 1 → IVec S16 32) a x).toNat < S256.size a := fun v1972 k0_hw25 => k0_hw25

def k0_chk26 (v1978 : IVec S16 32) : Prop :=
  (∀ a x, ((![v1978] : Fin 1 → IVec S16 32) a x).toNat < S256.size a)
theorem k0_idx26_inb : ∀ (v1978 : IVec S16 32) (k0_hw26 : k0_chk26 v1978), ∀ a x, ((![v1978] : Fin 1 → IVec S16 32) a x).toNat < S256.size a := fun v1978 k0_hw26 => k0_hw26

def k0_chk27 (v1984 : IVec S16 32) : Prop :=
  (∀ a x, ((![v1984] : Fin 1 → IVec S16 32) a x).toNat < S256.size a)
theorem k0_idx27_inb : ∀ (v1984 : IVec S16 32) (k0_hw27 : k0_chk27 v1984), ∀ a x, ((![v1984] : Fin 1 → IVec S16 32) a x).toNat < S256.size a := fun v1984 k0_hw27 => k0_hw27

def k0_chk28 (v1990 : IVec S16 32) : Prop :=
  (∀ a x, ((![v1990] : Fin 1 → IVec S16 32) a x).toNat < S256.size a)
theorem k0_idx28_inb : ∀ (v1990 : IVec S16 32) (k0_hw28 : k0_chk28 v1990), ∀ a x, ((![v1990] : Fin 1 → IVec S16 32) a x).toNat < S256.size a := fun v1990 k0_hw28 => k0_hw28

def k0_chk29 (v1996 : IVec S16 32) : Prop :=
  (∀ a x, ((![v1996] : Fin 1 → IVec S16 32) a x).toNat < S256.size a)
theorem k0_idx29_inb : ∀ (v1996 : IVec S16 32) (k0_hw29 : k0_chk29 v1996), ∀ a x, ((![v1996] : Fin 1 → IVec S16 32) a x).toNat < S256.size a := fun v1996 k0_hw29 => k0_hw29

def k0_chk30 (v2002 : IVec S16 32) : Prop :=
  (∀ a x, ((![v2002] : Fin 1 → IVec S16 32) a x).toNat < S256.size a)
theorem k0_idx30_inb : ∀ (v2002 : IVec S16 32) (k0_hw30 : k0_chk30 v2002), ∀ a x, ((![v2002] : Fin 1 → IVec S16 32) a x).toNat < S256.size a := fun v2002 k0_hw30 => k0_hw30

def k0_chk31 (v2008 : IVec S16 32) : Prop :=
  (∀ a x, ((![v2008] : Fin 1 → IVec S16 32) a x).toNat < S256.size a)
theorem k0_idx31_inb : ∀ (v2008 : IVec S16 32) (k0_hw31 : k0_chk31 v2008), ∀ a x, ((![v2008] : Fin 1 → IVec S16 32) a x).toNat < S256.size a := fun v2008 k0_hw31 => k0_hw31

def k0_chk32 (v2014 : IVec S16 32) : Prop :=
  (∀ a x, ((![v2014] : Fin 1 → IVec S16 32) a x).toNat < S256.size a)
theorem k0_idx32_inb : ∀ (v2014 : IVec S16 32) (k0_hw32 : k0_chk32 v2014), ∀ a x, ((![v2014] : Fin 1 → IVec S16 32) a x).toNat < S256.size a := fun v2014 k0_hw32 => k0_hw32

def k0_chk33 (v2020 : IVec S16 32) : Prop :=
  (∀ a x, ((![v2020] : Fin 1 → IVec S16 32) a x).toNat < S256.size a)
theorem k0_idx33_inb : ∀ (v2020 : IVec S16 32) (k0_hw33 : k0_chk33 v2020), ∀ a x, ((![v2020] : Fin 1 → IVec S16 32) a x).toNat < S256.size a := fun v2020 k0_hw33 => k0_hw33

def k0_chk34 (v2030 : IVec S16 32) : Prop :=
  (∀ a x, ((![v2030] : Fin 1 → IVec S16 32) a x).toNat < S3584.size a)
theorem k0_idx34_inb : ∀ (v2030 : IVec S16 32) (k0_hw34 : k0_chk34 v2030), ∀ a x, ((![v2030] : Fin 1 → IVec S16 32) a x).toNat < S3584.size a := fun v2030 k0_hw34 => k0_hw34

def k0_chk35 (v2032 : IVec S16 32) : Prop :=
  (∀ a x, ((![v2032] : Fin 1 → IVec S16 32) a x).toNat < S256.size a)
theorem k0_idx35_inb : ∀ (v2032 : IVec S16 32) (k0_hw35 : k0_chk35 v2032), ∀ a x, ((![v2032] : Fin 1 → IVec S16 32) a x).toNat < S256.size a := fun v2032 k0_hw35 => k0_hw35

def k0_chk36 (v2037 : IVec S16 32) : Prop :=
  (∀ a x, ((![v2037] : Fin 1 → IVec S16 32) a x).toNat < S256.size a)
theorem k0_idx36_inb : ∀ (v2037 : IVec S16 32) (k0_hw36 : k0_chk36 v2037), ∀ a x, ((![v2037] : Fin 1 → IVec S16 32) a x).toNat < S256.size a := fun v2037 k0_hw36 => k0_hw36

def k0_chk37 (v2043 : IVec S16 32) : Prop :=
  (∀ a x, ((![v2043] : Fin 1 → IVec S16 32) a x).toNat < S256.size a)
theorem k0_idx37_inb : ∀ (v2043 : IVec S16 32) (k0_hw37 : k0_chk37 v2043), ∀ a x, ((![v2043] : Fin 1 → IVec S16 32) a x).toNat < S256.size a := fun v2043 k0_hw37 => k0_hw37

def k0_chk38 (v2049 : IVec S16 32) : Prop :=
  (∀ a x, ((![v2049] : Fin 1 → IVec S16 32) a x).toNat < S256.size a)
theorem k0_idx38_inb : ∀ (v2049 : IVec S16 32) (k0_hw38 : k0_chk38 v2049), ∀ a x, ((![v2049] : Fin 1 → IVec S16 32) a x).toNat < S256.size a := fun v2049 k0_hw38 => k0_hw38

def k0_chk39 (v2055 : IVec S16 32) : Prop :=
  (∀ a x, ((![v2055] : Fin 1 → IVec S16 32) a x).toNat < S256.size a)
theorem k0_idx39_inb : ∀ (v2055 : IVec S16 32) (k0_hw39 : k0_chk39 v2055), ∀ a x, ((![v2055] : Fin 1 → IVec S16 32) a x).toNat < S256.size a := fun v2055 k0_hw39 => k0_hw39

def k0_chk40 (v2061 : IVec S16 32) : Prop :=
  (∀ a x, ((![v2061] : Fin 1 → IVec S16 32) a x).toNat < S256.size a)
theorem k0_idx40_inb : ∀ (v2061 : IVec S16 32) (k0_hw40 : k0_chk40 v2061), ∀ a x, ((![v2061] : Fin 1 → IVec S16 32) a x).toNat < S256.size a := fun v2061 k0_hw40 => k0_hw40

def k0_chk41 (v2067 : IVec S16 32) : Prop :=
  (∀ a x, ((![v2067] : Fin 1 → IVec S16 32) a x).toNat < S256.size a)
theorem k0_idx41_inb : ∀ (v2067 : IVec S16 32) (k0_hw41 : k0_chk41 v2067), ∀ a x, ((![v2067] : Fin 1 → IVec S16 32) a x).toNat < S256.size a := fun v2067 k0_hw41 => k0_hw41

def k0_chk42 (v2073 : IVec S16 32) : Prop :=
  (∀ a x, ((![v2073] : Fin 1 → IVec S16 32) a x).toNat < S256.size a)
theorem k0_idx42_inb : ∀ (v2073 : IVec S16 32) (k0_hw42 : k0_chk42 v2073), ∀ a x, ((![v2073] : Fin 1 → IVec S16 32) a x).toNat < S256.size a := fun v2073 k0_hw42 => k0_hw42

def k0_chk43 (v2079 : IVec S16 32) : Prop :=
  (∀ a x, ((![v2079] : Fin 1 → IVec S16 32) a x).toNat < S256.size a)
theorem k0_idx43_inb : ∀ (v2079 : IVec S16 32) (k0_hw43 : k0_chk43 v2079), ∀ a x, ((![v2079] : Fin 1 → IVec S16 32) a x).toNat < S256.size a := fun v2079 k0_hw43 => k0_hw43

def k0_chk44 (v2085 : IVec S16 32) : Prop :=
  (∀ a x, ((![v2085] : Fin 1 → IVec S16 32) a x).toNat < S256.size a)
theorem k0_idx44_inb : ∀ (v2085 : IVec S16 32) (k0_hw44 : k0_chk44 v2085), ∀ a x, ((![v2085] : Fin 1 → IVec S16 32) a x).toNat < S256.size a := fun v2085 k0_hw44 => k0_hw44

def k0_chk45 (v2091 : IVec S16 32) : Prop :=
  (∀ a x, ((![v2091] : Fin 1 → IVec S16 32) a x).toNat < S256.size a)
theorem k0_idx45_inb : ∀ (v2091 : IVec S16 32) (k0_hw45 : k0_chk45 v2091), ∀ a x, ((![v2091] : Fin 1 → IVec S16 32) a x).toNat < S256.size a := fun v2091 k0_hw45 => k0_hw45

def k0_chk46 (v2097 : IVec S16 32) : Prop :=
  (∀ a x, ((![v2097] : Fin 1 → IVec S16 32) a x).toNat < S256.size a)
theorem k0_idx46_inb : ∀ (v2097 : IVec S16 32) (k0_hw46 : k0_chk46 v2097), ∀ a x, ((![v2097] : Fin 1 → IVec S16 32) a x).toNat < S256.size a := fun v2097 k0_hw46 => k0_hw46

def k0_chk47 (v2103 : IVec S16 32) : Prop :=
  (∀ a x, ((![v2103] : Fin 1 → IVec S16 32) a x).toNat < S256.size a)
theorem k0_idx47_inb : ∀ (v2103 : IVec S16 32) (k0_hw47 : k0_chk47 v2103), ∀ a x, ((![v2103] : Fin 1 → IVec S16 32) a x).toNat < S256.size a := fun v2103 k0_hw47 => k0_hw47

def k0_chk48 (v2109 : IVec S16 32) : Prop :=
  (∀ a x, ((![v2109] : Fin 1 → IVec S16 32) a x).toNat < S256.size a)
theorem k0_idx48_inb : ∀ (v2109 : IVec S16 32) (k0_hw48 : k0_chk48 v2109), ∀ a x, ((![v2109] : Fin 1 → IVec S16 32) a x).toNat < S256.size a := fun v2109 k0_hw48 => k0_hw48

def k0_chk49 (v2115 : IVec S16 32) : Prop :=
  (∀ a x, ((![v2115] : Fin 1 → IVec S16 32) a x).toNat < S256.size a)
theorem k0_idx49_inb : ∀ (v2115 : IVec S16 32) (k0_hw49 : k0_chk49 v2115), ∀ a x, ((![v2115] : Fin 1 → IVec S16 32) a x).toNat < S256.size a := fun v2115 k0_hw49 => k0_hw49

def k0_chk50 (v2121 : IVec S16 32) : Prop :=
  (∀ a x, ((![v2121] : Fin 1 → IVec S16 32) a x).toNat < S256.size a)
theorem k0_idx50_inb : ∀ (v2121 : IVec S16 32) (k0_hw50 : k0_chk50 v2121), ∀ a x, ((![v2121] : Fin 1 → IVec S16 32) a x).toNat < S256.size a := fun v2121 k0_hw50 => k0_hw50

def k0_chk51 (v2131 : IVec S16 32) : Prop :=
  (∀ a x, ((![v2131] : Fin 1 → IVec S16 32) a x).toNat < S3584.size a)
theorem k0_idx51_inb : ∀ (v2131 : IVec S16 32) (k0_hw51 : k0_chk51 v2131), ∀ a x, ((![v2131] : Fin 1 → IVec S16 32) a x).toNat < S3584.size a := fun v2131 k0_hw51 => k0_hw51

def k0_chk52 (v2133 : IVec S16 32) : Prop :=
  (∀ a x, ((![v2133] : Fin 1 → IVec S16 32) a x).toNat < S256.size a)
theorem k0_idx52_inb : ∀ (v2133 : IVec S16 32) (k0_hw52 : k0_chk52 v2133), ∀ a x, ((![v2133] : Fin 1 → IVec S16 32) a x).toNat < S256.size a := fun v2133 k0_hw52 => k0_hw52

def k0_chk53 (v2138 : IVec S16 32) : Prop :=
  (∀ a x, ((![v2138] : Fin 1 → IVec S16 32) a x).toNat < S256.size a)
theorem k0_idx53_inb : ∀ (v2138 : IVec S16 32) (k0_hw53 : k0_chk53 v2138), ∀ a x, ((![v2138] : Fin 1 → IVec S16 32) a x).toNat < S256.size a := fun v2138 k0_hw53 => k0_hw53

def k0_chk54 (v2144 : IVec S16 32) : Prop :=
  (∀ a x, ((![v2144] : Fin 1 → IVec S16 32) a x).toNat < S256.size a)
theorem k0_idx54_inb : ∀ (v2144 : IVec S16 32) (k0_hw54 : k0_chk54 v2144), ∀ a x, ((![v2144] : Fin 1 → IVec S16 32) a x).toNat < S256.size a := fun v2144 k0_hw54 => k0_hw54

def k0_chk55 (v2150 : IVec S16 32) : Prop :=
  (∀ a x, ((![v2150] : Fin 1 → IVec S16 32) a x).toNat < S256.size a)
theorem k0_idx55_inb : ∀ (v2150 : IVec S16 32) (k0_hw55 : k0_chk55 v2150), ∀ a x, ((![v2150] : Fin 1 → IVec S16 32) a x).toNat < S256.size a := fun v2150 k0_hw55 => k0_hw55

def k0_chk56 (v2156 : IVec S16 32) : Prop :=
  (∀ a x, ((![v2156] : Fin 1 → IVec S16 32) a x).toNat < S256.size a)
theorem k0_idx56_inb : ∀ (v2156 : IVec S16 32) (k0_hw56 : k0_chk56 v2156), ∀ a x, ((![v2156] : Fin 1 → IVec S16 32) a x).toNat < S256.size a := fun v2156 k0_hw56 => k0_hw56

def k0_chk57 (v2162 : IVec S16 32) : Prop :=
  (∀ a x, ((![v2162] : Fin 1 → IVec S16 32) a x).toNat < S256.size a)
theorem k0_idx57_inb : ∀ (v2162 : IVec S16 32) (k0_hw57 : k0_chk57 v2162), ∀ a x, ((![v2162] : Fin 1 → IVec S16 32) a x).toNat < S256.size a := fun v2162 k0_hw57 => k0_hw57

def k0_chk58 (v2168 : IVec S16 32) : Prop :=
  (∀ a x, ((![v2168] : Fin 1 → IVec S16 32) a x).toNat < S256.size a)
theorem k0_idx58_inb : ∀ (v2168 : IVec S16 32) (k0_hw58 : k0_chk58 v2168), ∀ a x, ((![v2168] : Fin 1 → IVec S16 32) a x).toNat < S256.size a := fun v2168 k0_hw58 => k0_hw58

def k0_chk59 (v2174 : IVec S16 32) : Prop :=
  (∀ a x, ((![v2174] : Fin 1 → IVec S16 32) a x).toNat < S256.size a)
theorem k0_idx59_inb : ∀ (v2174 : IVec S16 32) (k0_hw59 : k0_chk59 v2174), ∀ a x, ((![v2174] : Fin 1 → IVec S16 32) a x).toNat < S256.size a := fun v2174 k0_hw59 => k0_hw59

def k0_chk60 (v2180 : IVec S16 32) : Prop :=
  (∀ a x, ((![v2180] : Fin 1 → IVec S16 32) a x).toNat < S256.size a)
theorem k0_idx60_inb : ∀ (v2180 : IVec S16 32) (k0_hw60 : k0_chk60 v2180), ∀ a x, ((![v2180] : Fin 1 → IVec S16 32) a x).toNat < S256.size a := fun v2180 k0_hw60 => k0_hw60

def k0_chk61 (v2186 : IVec S16 32) : Prop :=
  (∀ a x, ((![v2186] : Fin 1 → IVec S16 32) a x).toNat < S256.size a)
theorem k0_idx61_inb : ∀ (v2186 : IVec S16 32) (k0_hw61 : k0_chk61 v2186), ∀ a x, ((![v2186] : Fin 1 → IVec S16 32) a x).toNat < S256.size a := fun v2186 k0_hw61 => k0_hw61

def k0_chk62 (v2192 : IVec S16 32) : Prop :=
  (∀ a x, ((![v2192] : Fin 1 → IVec S16 32) a x).toNat < S256.size a)
theorem k0_idx62_inb : ∀ (v2192 : IVec S16 32) (k0_hw62 : k0_chk62 v2192), ∀ a x, ((![v2192] : Fin 1 → IVec S16 32) a x).toNat < S256.size a := fun v2192 k0_hw62 => k0_hw62

def k0_chk63 (v2198 : IVec S16 32) : Prop :=
  (∀ a x, ((![v2198] : Fin 1 → IVec S16 32) a x).toNat < S256.size a)
theorem k0_idx63_inb : ∀ (v2198 : IVec S16 32) (k0_hw63 : k0_chk63 v2198), ∀ a x, ((![v2198] : Fin 1 → IVec S16 32) a x).toNat < S256.size a := fun v2198 k0_hw63 => k0_hw63

def k0_chk64 (v2204 : IVec S16 32) : Prop :=
  (∀ a x, ((![v2204] : Fin 1 → IVec S16 32) a x).toNat < S256.size a)
theorem k0_idx64_inb : ∀ (v2204 : IVec S16 32) (k0_hw64 : k0_chk64 v2204), ∀ a x, ((![v2204] : Fin 1 → IVec S16 32) a x).toNat < S256.size a := fun v2204 k0_hw64 => k0_hw64

def k0_chk65 (v2210 : IVec S16 32) : Prop :=
  (∀ a x, ((![v2210] : Fin 1 → IVec S16 32) a x).toNat < S256.size a)
theorem k0_idx65_inb : ∀ (v2210 : IVec S16 32) (k0_hw65 : k0_chk65 v2210), ∀ a x, ((![v2210] : Fin 1 → IVec S16 32) a x).toNat < S256.size a := fun v2210 k0_hw65 => k0_hw65

def k0_chk66 (v2216 : IVec S16 32) : Prop :=
  (∀ a x, ((![v2216] : Fin 1 → IVec S16 32) a x).toNat < S256.size a)
theorem k0_idx66_inb : ∀ (v2216 : IVec S16 32) (k0_hw66 : k0_chk66 v2216), ∀ a x, ((![v2216] : Fin 1 → IVec S16 32) a x).toNat < S256.size a := fun v2216 k0_hw66 => k0_hw66

def k0_chk67 (v2222 : IVec S16 32) : Prop :=
  (∀ a x, ((![v2222] : Fin 1 → IVec S16 32) a x).toNat < S256.size a)
theorem k0_idx67_inb : ∀ (v2222 : IVec S16 32) (k0_hw67 : k0_chk67 v2222), ∀ a x, ((![v2222] : Fin 1 → IVec S16 32) a x).toNat < S256.size a := fun v2222 k0_hw67 => k0_hw67

def k0_chk68 (v2232 : IVec S16 32) : Prop :=
  (∀ a x, ((![v2232] : Fin 1 → IVec S16 32) a x).toNat < S3584.size a)
theorem k0_idx68_inb : ∀ (v2232 : IVec S16 32) (k0_hw68 : k0_chk68 v2232), ∀ a x, ((![v2232] : Fin 1 → IVec S16 32) a x).toNat < S3584.size a := fun v2232 k0_hw68 => k0_hw68
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32_1 : BitVec 32 := 56#32
  let v5 : BitVec 32 := Scalar.muli v2 c56_i32_1
  ![v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x1024 : Shape := ⟨2, ![2048, 1024]⟩
abbrev S56x128 : Shape := ⟨2, ![56, 128]⟩
abbrev S56x128x1024 : Shape := ⟨3, ![56, 128, 1024]⟩
abbrev S7168x1024 : Shape := ⟨2, ![7168, 1024]⟩
abbrev S1024x2048 : Shape := ⟨2, ![1024, 2048]⟩
abbrev S7168x2048 : Shape := ⟨2, ![7168, 2048]⟩
abbrev S2048x7168 : Shape := ⟨2, ![2048, 7168]⟩
abbrev S2048x56x128 : Shape := ⟨3, ![2048, 56, 128]⟩
abbrev S1x56x128 : Shape := ⟨3, ![1, 56, 128]⟩
abbrev S_ : Shape := ⟨0, ![]⟩
abbrev S2048x56 : Shape := ⟨2, ![2048, 56]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S56x128, .f32⟩
  | .hbm, ⟨2, _⟩ => ⟨S56x128x1024, .f32⟩
  | .hbm, ⟨3, _⟩ => ⟨S7168x1024, .f32⟩
  | .hbm, ⟨4, _⟩ => ⟨S1024x2048, .f32⟩
  | .hbm, ⟨5, _⟩ => ⟨S7168x2048, .f32⟩
  | .hbm, ⟨6, _⟩ => ⟨S2048x7168, .f32⟩
  | .hbm, ⟨7, _⟩ => ⟨S2048x56x128, .f32⟩
  | .hbm, ⟨8, _⟩ => ⟨S1x56x128, .f32⟩
  | .hbm, ⟨9, _⟩ => ⟨S2048x56x128, .f32⟩
  | .hbm, ⟨10, _⟩ => ⟨S2048x56x128, .f32⟩
  | .hbm, ⟨11, _⟩ => ⟨S_, .f32⟩
  | .hbm, ⟨12, _⟩ => ⟨S2048x56, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Compact.lean ====
/-
  One trip of the kernel's counted loop, written as the nested loops the kernel's source has: the printed region lists
  its thirty-two weight loads, sixteen row groups and sixty-four gathers one after the other, and the program below
  says the same sequence with a counted loop for each of them. `body_eq` is the equation of the two, by unfolding.
-/
module

public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-! ## The words a trip computes -/

/-- The quotient rounded down, as the kernel computes it of two signed words. -/
def floorDiv (a b : BitVec 32) : BitVec 32 :=
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- The remainder with the divisor's sign, as the kernel computes it. -/
def floorMod (a b : BitVec 32) : BitVec 32 :=
  Scalar.select
    (Scalar.andi
      (Scalar.xori (Scalar.cmpi .slt (Scalar.remsi a (Scalar.select (Scalar.cmpi .eq b 0#32) 1#32 b)) 0#32)
        (Scalar.cmpi .slt (Scalar.select (Scalar.cmpi .eq b 0#32) 1#32 b) 0#32))
      (Scalar.cmpi .ne (Scalar.remsi a (Scalar.select (Scalar.cmpi .eq b 0#32) 1#32 b)) 0#32))
    (Scalar.addi (Scalar.remsi a (Scalar.select (Scalar.cmpi .eq b 0#32) 1#32 b)) (Scalar.select (Scalar.cmpi .eq b 0#32) 1#32 b))
    (Scalar.remsi a (Scalar.select (Scalar.cmpi .eq b 0#32) 1#32 b))

/-- Trip `t`'s filter group, -/
def grp (t : Fin k0_t1_loop.trips) : BitVec 32 := floorDiv (Scf.iv 0#32 1#32 t) 4#32
/-- its first row within the task's rows, -/
def row0 (t : Fin k0_t1_loop.trips) : BitVec 32 := Scalar.muli (floorMod (Scf.iv 0#32 1#32 t) 4#32) 16#32
/-- and the group's first column of `x`. -/
def col0 (t : Fin k0_t1_loop.trips) : BitVec 32 :=
  Scalar.select (Scalar.cmpi .eq (grp t) 13#32) 896#32 (Scalar.muli 64#32 (grp t))

/-- The weights filter `c` of the group reads as its chunk `k`: where they start. -/
def offW (t : Fin k0_t1_loop.trips) (c : Fin 4) (k : Fin 8) : Fin 2 → Nat :=
  ![(Scalar.indexCast (Scalar.addi (Scalar.muli 4#32 (grp t)) (BitVec.ofNat 32 c.val))).toNat, 16 * k.val]
/-- The words of row `b` of the row group read as chunk `k`: where they start. -/
def offX (t : Fin k0_t1_loop.trips) (b : Fin 16) (k : Fin 8) : Fin 2 → Nat :=
  ![(Scalar.indexCast (Scalar.addi (row0 t) (BitVec.ofNat 32 b.val))).toNat,
    (Scalar.indexCast (Scalar.addi (col0 t) (BitVec.ofNat 32 (16 * k.val)))).toNat]

theorem grp_eq : ∀ t : Fin k0_t1_loop.trips, grp t = BitVec.ofNat 32 (t.val / 4) := by decide +kernel
theorem row0_eq : ∀ t : Fin k0_t1_loop.trips, row0 t = BitVec.ofNat 32 (16 * (t.val % 4)) := by decide +kernel

/-- The first column the filters of group `j` read. -/
def start (j : ℕ) : ℕ := if j = 13 then 896 else 64 * j

theorem col0_eq : ∀ t : Fin k0_t1_loop.trips, col0 t = BitVec.ofNat 32 (start (t.val / 4)) := by decide +kernel

theorem trips_eq : k0_t1_loop.trips = 56 := by decide +kernel

theorem offW_eq (t : Fin k0_t1_loop.trips) (c : Fin 4) (k : Fin 8) : offW t c k = ![4 * (t.val / 4) + c.val, 16 * k.val] := by
  have ht := lt_of_lt_of_eq t.isLt trips_eq
  unfold offW; rw [grp_eq]
  congr 1
  simp only [Scalar.indexCast, Scalar.addi, Scalar.muli, IntOp.addi, IntOp.muli, BitVec.toNat_add, BitVec.toNat_mul, BitVec.toNat_ofNat]
  omega

theorem start_le {j : ℕ} (h : j < 14) : start j ≤ 896 := by unfold start; split <;> omega

theorem offX_eq (t : Fin k0_t1_loop.trips) (b : Fin 16) (k : Fin 8) :
    offX t b k = ![16 * (t.val % 4) + b.val, start (t.val / 4) + 16 * k.val] := by
  have ht := lt_of_lt_of_eq t.isLt trips_eq
  have hs : start (t.val / 4) ≤ 896 := start_le (by omega)
  unfold offX; rw [row0_eq, col0_eq]
  simp only [Scalar.indexCast, Scalar.addi, IntOp.addi, BitVec.toNat_add, BitVec.toNat_ofNat]
  rw [Nat.mod_eq_of_lt (by omega), Nat.mod_eq_of_lt (by omega)]
  congr 1
  · omega
  · congr 1; omega

theorem offW_inb (t : Fin k0_t1_loop.trips) (c : Fin 4) (k : Fin 8) : ∀ a, offW t c k a + S1x16.size a ≤ S56x128.size a := by
  have ht := lt_of_lt_of_eq t.isLt trips_eq
  rw [offW_eq]
  intro a
  match a with
  | 0 => show 4 * (t.val / 4) + c.val + 1 ≤ 56; omega
  | 1 => show 16 * k.val + 16 ≤ 128; omega

theorem offX_inb (t : Fin k0_t1_loop.trips) (b : Fin 16) (k : Fin 8) : ∀ a, offX t b k a + S1x16.size a ≤ S64x1024.size a := by
  have ht := lt_of_lt_of_eq t.isLt trips_eq
  have hs : start (t.val / 4) ≤ 896 := start_le (by omega)
  rw [offX_eq]
  intro a
  match a with
  | 0 => show 16 * (t.val % 4) + b.val + 1 ≤ 64; omega
  | 1 => show start (t.val / 4) + 16 * k.val + 16 ≤ 1024; omega

theorem offS_inb (b : Fin 16) : ∀ a, (![16 * b.val] : Fin 1 → Nat) a + S16.size a ≤ S256.size a := by
  intro a
  match a with
  | 0 => show 16 * b.val + 16 ≤ 256; omega

/-! ## The program -/

/-- The lanes, counted. -/
abbrev lanes : IVec S16 32 := iota .scVector S16 32 [0] Facts₀.iota_S16_d0_w32_scVector

/-- The stage's elements lane `l` of each row stands at. -/
def gIdx (l : Fin 16) : IVec S16 32 :=
  match l.val with
  | 0 => muli lanes (broadcast S16 16#32)
  | m + 1 => addi (muli lanes (broadcast S16 16#32)) (broadcast S16 (BitVec.ofNat 32 (m + 1)))

/-- The output's elements filter `c`'s sixteen totals go to. -/
def oIdx (t : Fin k0_t1_loop.trips) (c : Fin 4) : IVec S16 32 :=
  addi (muli lanes (broadcast S16 56#32))
    (broadcast S16 (Scalar.addi (Scalar.addi (Scalar.muli (row0 t) 56#32) (Scalar.muli 4#32 (grp t))) (BitVec.ofNat 32 c.val)))

/-- Eight products, summed from the first on. -/
def dot8 (x w : Fin 8 → Vec F S16 .f32) : FVec F S16 .f32 :=
  addf (addf (addf (addf (addf (addf (addf (mulf (x 0) (w 0)) (mulf (x 1) (w 1))) (mulf (x 2) (w 2))) (mulf (x 3) (w 3)))
    (mulf (x 4) (w 4))) (mulf (x 5) (w 5))) (mulf (x 6) (w 6))) (mulf (x 7) (w 7))

section Program

/-- A tile's programs. -/
abbrev TileProg (F : FTy → Type) (i : grid0.Coords) (α : Type) : Type 1 :=
  Prog (TpuEff nD τ sig (Elt F) Λ₀ (.scVector ((i 0).castLE hcore0) ((i 1).castLE hsub0))) α

variable {i : grid0.Coords}

variable (arg5 : Memref sig .scVector .vmem S64x1024 .f32) (arg6 : Memref sig .scVector .vmem S56x128 .f32)
  (arg7 : Memref sig .scVector .vmem S3584 .f32) (arg8 arg9 arg10 arg11 : Memref sig .scVector .vmem S256 .f32)

/-- `n` answers in a row, as one function of their place. -/
def gather {α : Type} : (n : ℕ) → (Fin n → TileProg F i α) → TileProg F i (Fin n → α)
  | 0, _ => .ret Fin.elim0
  | n + 1, f => f 0 >>= fun a => gather n (fun k => f k.succ) >>= fun g => .ret (Fin.cons a g)

/-- The weights' chunk `k` of filter `c`. -/
def loadW (t : Fin k0_t1_loop.trips) (c : Fin 4) (k : Fin 8) : TileProg F i (Vec F S16 .f32) :=
  .op (.load arg6 (Rect.unit (s := S56x128) (offW t c k) S1x16.size (offW_inb t c k)).toLoadRect (View.loadsAt_vmem Facts₀.h_S1x16))
    fun v => Prog.ret (shapeCast S16 v Facts₀.shapeCasts_S1x16_S16)

/-- Row `b`'s chunk `k`. -/
def loadX (t : Fin k0_t1_loop.trips) (b : Fin 16) (k : Fin 8) : TileProg F i (Vec F S16 .f32) :=
  .op (.load arg5 (Rect.unit (s := S64x1024) (offX t b k) S1x16.size (offX_inb t b k)).toLoadRect (View.loadsAt_vmem Facts₀.h_S1x16))
    fun v => Prog.ret (shapeCast S16 v Facts₀.shapeCasts_S1x16_S16)

/-- Sixteen lanes put into a stage as row `b`'s. -/
def stageOne (st : Memref sig .scVector .vmem S256 .f32) (b : Fin 16) (v : FVec F S16 .f32) : TileProg F i PUnit :=
  .op (.load st (Rect.unit (s := S256) ![16 * b.val] S16.size (offS_inb b)).toLoadRect (View.loadsAt_vmem Facts₀.h_S16)) fun _ =>
  .op (.store st (Rect.unit (s := S256) ![16 * b.val] S16.size (offS_inb b)) v Finset.univ (View.stores_vmem_bits_univ Facts₀.h_S16 rfl) (.inl rfl)) .ret

/-- Row `b` of the group: its eight chunks, and the four filters' sixteen partial sums. -/
def rowStep (t : Fin k0_t1_loop.trips) (w : Fin 4 → Fin 8 → Vec F S16 .f32) (b : Fin 16) : TileProg F i PUnit :=
  gather 8 (loadX (i := i) arg5 t b) >>= fun x =>
  stageOne arg8 b (dot8 x (w 0)) >>= fun _ =>
  stageOne arg9 b (dot8 x (w 1)) >>= fun _ =>
  stageOne arg10 b (dot8 x (w 2)) >>= fun _ =>
  stageOne arg11 b (dot8 x (w 3))

/-- Lane `l` of every row of a stage. -/
def gatherOne (st : Memref sig .scVector .vmem S256 .f32) (l : Fin 16) : TileProg F i (Vec F S16 .f32) :=
  .op (.assume (k0_chk1 (gIdx l)) (k0_chk1.dec (gIdx l))) fun h =>
  SparseCore.vectorLoadIdx st ![gIdx l] h.down (View.loads_vmem Facts₀.h_S256)

/-- A stage's sixteen lanes totalled, row by row, and put where they belong. -/
def filterStep (t : Fin k0_t1_loop.trips) (st : Memref sig .scVector .vmem S256 .f32) (c : Fin 4) : TileProg F i PUnit :=
  gatherOne (i := i) st 0 >>= fun v =>
  Scf.forFrom (fun (l : Fin 15) (tot : FVec F S16 .f32) => gatherOne (i := i) st l.succ >>= fun u => .ret (addf tot u)) (List.finRange 15) v >>= fun tot =>
  .op (.assume (k0_chk17 (oIdx t c)) (k0_chk17.dec (oIdx t c))) fun h =>
  SparseCore.vectorStoreIdx arg7 ![oIdx t c] tot (fun _ => 1#1) false h.down (View.stores_vmem_bits_univ Facts₀.h_S3584 rfl)

/-- The trip. -/
def trip (t : Fin k0_t1_loop.trips) : TileProg F i PUnit :=
  gather 4 (fun c => gather 8 (loadW (i := i) arg6 t c)) >>= fun w =>
  Scf.forFrom (fun b _ => rowStep arg5 arg8 arg9 arg10 arg11 t w b) (List.finRange 16) ⟨⟩ >>= fun _ =>
  filterStep arg7 t arg8 0 >>= fun _ =>
  filterStep arg7 t arg9 1 >>= fun _ =>
  filterStep arg7 t arg10 2 >>= fun _ =>
  filterStep arg7 t arg11 3

end Program

end Cert.Proof

end
-- ==== Proof.CompactEq.lean ====
/-
  The printed region of the kernel's counted loop is the trip (`Compact.trip`): the two programs step by step.
-/
module

public import proofs.«01_k».proof.Proof.Compact

@[expose] public section

noncomputable section

namespace Cert.Proof

open Cert.KernelIdeal Cert.KernelIdeal.Gen
open Idealize.ShloMosaic Idealize.SL.Sem

variable {F : FTy → Type} [FloatOps F]

/-- Two programs that begin with the same effect and go on alike are one program. -/
theorem op_congr.{v} {E : Type → Type v} {α β : Type} {e e' : E β} {k k' : β → Prog E α} (he : e = e') (h : ∀ x, k x = k' x) :
    Prog.op e k = Prog.op e' k' := by
  subst he; exact congrArg _ (funext h)

set_option maxRecDepth 65536 in
set_option maxHeartbeats 0 in
/-- The printed region is the trip. -/
theorem body_eq (i : grid0.Coords) (arg2 : Memref sig .scVector .hbm S2048x1024 .f32) (harg2 : arg2.IsWhole) (arg3 : Memref sig .scVector .hbm S56x128 .f32) (harg3 : arg3.IsWhole) (arg4 : Memref sig .scVector .hbm S114688 .f32) (harg4 : arg4.IsWhole) (arg5 : Memref sig .scVector .vmem S64x1024 .f32) (harg5 : arg5.IsWhole) (arg6 : Memref sig .scVector .vmem S56x128 .f32) (harg6 : arg6.IsWhole) (arg7 : Memref sig .scVector .vmem S3584 .f32) (harg7 : arg7.IsWhole) (arg8 : Memref sig .scVector .vmem S256 .f32) (harg8 : arg8.IsWhole) (arg9 : Memref sig .scVector .vmem S256 .f32) (harg9 : arg9.IsWhole) (arg10 : Memref sig .scVector .vmem S256 .f32) (harg10 : arg10.IsWhole) (arg11 : Memref sig .scVector .vmem S256 .f32) (harg11 : arg11.IsWhole) (v6_r0 : DmaSems sig S_) (v6_r1 : DmaSems sig S_) (v6_r2 : DmaSems sig S_)
    (t : Fin k0_t1_loop.trips) :
    k0_t1_body (F := F) i arg2 harg2 arg3 harg3 arg4 harg4 arg5 harg5 arg6 harg6 arg7 harg7 arg8 harg8 arg9 harg9 arg10 harg10 arg11 harg11 v6_r0 v6_r1 v6_r2 lanes t ⟨⟩
      = trip arg5 arg6 arg7 arg8 arg9 arg10 arg11 t := by
  repeat refine op_congr rfl fun _ => ?_
  rfl

end Cert.Proof

end
-- ==== Proof.Value.lean ====
/-
  The value of the kernel's output, element by element over any float type: sums written from the first term on, in
  the kernel's own order — the eight chunks of a lane first, the sixteen lanes after — and the pure facts about the
  kernel's index vectors, its loads and its scatter that the trip's proof uses.
-/
module

public import proofs.«01_k».proof.Proof.Compact

@[expose] public section

noncomputable section

namespace Cert.Proof

open Cert.KernelIdeal Cert.KernelIdeal.Gen
open Idealize.ShloMosaic Idealize.SL.Sem

variable {F : FTy → Type} [FloatOps F]

/-! ## The value -/

/-- `p 0 + p 1 + … + p m`, added from the first term on. -/
def sumTo (p : ℕ → F .f32) : ℕ → F .f32
  | 0 => p 0
  | m + 1 => FloatOps.addf (sumTo p m) (p (m + 1))

/-- Lane `l`'s partial sum of row `r` against filter `n`: the products of the eight chunks' `l`-th words. -/
def part (X W : ℕ → ℕ → F .f32) (r n l : ℕ) : F .f32 :=
  sumTo (fun k => FloatOps.mulf (X r (start (n / 4) + 16 * k + l)) (W n (16 * k + l))) 7

/-- Row `r` against filter `n`: the sixteen lanes' partial sums. -/
def total (X W : ℕ → ℕ → F .f32) (r n : ℕ) : F .f32 := sumTo (part X W r n) 15

/-- An array of rank two as a function of two numbers, wrapping round. -/
def nat2 {A : Type} {a b : ℕ} (f : (⟨2, ![a + 1, b + 1]⟩ : Shape).Idx → A) (r c : ℕ) : A :=
  f fun
    | 0 => ⟨r % (a + 1), Nat.mod_lt _ (Nat.succ_pos _)⟩
    | 1 => ⟨c % (b + 1), Nat.mod_lt _ (Nat.succ_pos _)⟩

theorem nat2_idx {A : Type} {a b : ℕ} (f : (⟨2, ![a + 1, b + 1]⟩ : Shape).Idx → A) (y : (⟨2, ![a + 1, b + 1]⟩ : Shape).Idx) :
    nat2 f (y 0).val (y 1).val = f y := by
  unfold nat2; congr 1; funext a
  match a with
  | 0 => exact Fin.ext (Nat.mod_eq_of_lt (y 0).isLt)
  | 1 => exact Fin.ext (Nat.mod_eq_of_lt (y 1).isLt)

/-! ## The chunks -/

/-- The row of a chunk and the chunk's lanes, matched. -/
theorem cast_row (j : S16.Idx) : (Shape.reshapeEquiv (s := S1x16) (s' := S16) Facts₀.shapeCasts_S1x16_S16 j : S1x16.Idx)
    = fun | 0 => ⟨0, Nat.one_pos⟩ | 1 => ⟨(j 0).val, (j 0).isLt⟩ := by
  refine Shape.reshapeEquiv_eq_of_rowMajor _ ?_
  rw [Shape.rowMajor_val_two, Shape.rowMajor_val_one]
  show 0 * 16 + (j 0).val = (j 0).val
  omega

/-- A chunk of one row out of an array, as its lanes. -/
theorem chunk_apply {a b : ℕ} {off : Fin 2 → ℕ} (inb : ∀ x, off x + S1x16.size x ≤ (⟨2, ![a, b]⟩ : Shape).size x) (G : ℕ → ℕ → F .f32) (j : S16.Idx) :
    shapeCast S16 (fun y : S1x16.Idx => G ((Rect.unit (s := ⟨2, ![a, b]⟩) off S1x16.size inb).emb y 0).val
      ((Rect.unit (s := ⟨2, ![a, b]⟩) off S1x16.size inb).emb y 1).val) Facts₀.shapeCasts_S1x16_S16 j = G (off 0) (off 1 + (j 0).val) := by
  unfold shapeCast
  rw [cast_row]
  show G (off 0 + 1 * 0) (off 1 + 1 * (j 0).val) = _
  rw [Nat.mul_zero, Nat.add_zero, Nat.one_mul]

/-- Filter `c`'s weights in trip `t`, chunk `k`. -/
def chW (W : ℕ → ℕ → F .f32) (t : Fin k0_t1_loop.trips) (c : Fin 4) (k : Fin 8) : Vec F S16 .f32 :=
  fun j => W (4 * (t.val / 4) + c.val) (16 * k.val + (j 0).val)
/-- Row `b`'s words in trip `t`, chunk `k`. -/
def chX (X : ℕ → ℕ → F .f32) (t : Fin k0_t1_loop.trips) (b : Fin 16) (k : Fin 8) : Vec F S16 .f32 :=
  fun j => X (16 * (t.val % 4) + b.val) (start (t.val / 4) + 16 * k.val + (j 0).val)

/-- The eight chunks' sum is the lanes' partial sums. -/
theorem dot8_chunks (X W : ℕ → ℕ → F .f32) (t : Fin k0_t1_loop.trips) (b : Fin 16) (c : Fin 4) :
    dot8 (chX X t b) (chW W t c) = fun j => part X W (16 * (t.val % 4) + b.val) (4 * (t.val / 4) + c.val) (j 0).val := by
  funext j
  have h : (4 * (t.val / 4) + c.val) / 4 = t.val / 4 := by omega
  unfold part; rw [h]; rfl

/-! ## The index vectors -/

theorem lanes_apply (j : S16.Idx) : lanes j = BitVec.ofNat 32 (j 0).val := by
  show BitVec.ofNat 32 ([(0 : Fin S16.rank)].foldl (fun n a => n * S16.size a + (j a).val) 0) = _
  simp

theorem gIdx_toNat (l : Fin 16) (j : S16.Idx) : (gIdx l j).toNat = 16 * (j 0).val + l.val := by
  have hj : (j 0).val < 16 := (j 0).isLt
  have hl := l.isLt
  obtain ⟨_ | m, hm⟩ := l
  · show (muli lanes (broadcast S16 16#32) j).toNat = 16 * (j 0).val + 0
    simp only [muli, broadcast, IntOp.muli, lanes_apply, BitVec.toNat_mul, BitVec.toNat_ofNat]
    omega
  · show (addi (muli lanes (broadcast S16 16#32)) (broadcast S16 (BitVec.ofNat 32 (m + 1))) j).toNat = 16 * (j 0).val + (m + 1)
    simp only [muli, addi, broadcast, IntOp.muli, IntOp.addi, lanes_apply, BitVec.toNat_mul, BitVec.toNat_add, BitVec.toNat_ofNat]
    omega

theorem oIdx_toNat (t : Fin k0_t1_loop.trips) (c : Fin 4) (j : S16.Idx) :
    (oIdx t c j).toNat = 56 * (16 * (t.val % 4) + (j 0).val) + (4 * (t.val / 4) + c.val) := by
  have hj : (j 0).val < 16 := (j 0).isLt
  have ht := lt_of_lt_of_eq t.isLt trips_eq
  have hc := c.isLt
  unfold oIdx
  rw [row0_eq, grp_eq]
  simp only [muli, addi, broadcast, Scalar.addi, Scalar.muli, IntOp.muli, IntOp.addi, lanes_apply, BitVec.toNat_mul, BitVec.toNat_add, BitVec.toNat_ofNat]
  omega

theorem gIdx_inb (l : Fin 16) : k0_chk1 (gIdx l) := by
  intro a x
  have hj : (x 0).val < 16 := (x 0).isLt
  have hl := l.isLt
  match a with
  | 0 => show (gIdx l x).toNat < 256; rw [gIdx_toNat]; omega

theorem oIdx_inb (t : Fin k0_t1_loop.trips) (c : Fin 4) : k0_chk17 (oIdx t c) := by
  intro a x
  have hj : (x 0).val < 16 := (x 0).isLt
  have ht := lt_of_lt_of_eq t.isLt trips_eq
  have hc := c.isLt
  match a with
  | 0 => show (oIdx t c x).toNat < 3584; rw [oIdx_toNat]; omega

/-! ## The scatter -/

/-- The lanes `L` put in turn into rank one's `f`: at a place no lane of them names, `f`'s; -/
theorem scatter_miss {A : Type} {d n : ℕ} (p : Fin n → ℕ) (v : Fin n → A) (y : (⟨1, ![d]⟩ : Shape).Idx) :
    ∀ (L : List (Fin n)) (f : (⟨1, ![d]⟩ : Shape).Idx → A), (∀ k ∈ L, (y 0).val ≠ p k) →
      L.foldl (fun g k => fun j : (⟨1, ![d]⟩ : Shape).Idx => if (j 0).val = p k then v k else g j) f y = f y
  | [], _, _ => rfl
  | k :: L, f, h => by
    rw [List.foldl_cons, scatter_miss p v y L _ fun k' hk' => h k' (List.mem_cons_of_mem _ hk')]
    exact if_neg (h k List.mem_cons_self)

/-- at a place one lane of them names, that lane's. -/
theorem scatter_hit {A : Type} {d n : ℕ} (p : Fin n → ℕ) (hp : Function.Injective p) (v : Fin n → A) (y : (⟨1, ![d]⟩ : Shape).Idx) (k : Fin n) (hk : (y 0).val = p k) :
    ∀ (L : List (Fin n)) (f : (⟨1, ![d]⟩ : Shape).Idx → A), k ∈ L →
      L.foldl (fun g k => fun j : (⟨1, ![d]⟩ : Shape).Idx => if (j 0).val = p k then v k else g j) f y = v k
  | k' :: L, f, h => by
    rw [List.foldl_cons]
    by_cases hL : k ∈ L
    · exact scatter_hit p hp v y k hk L _ hL
    · have e : k' = k := ((List.mem_cons.mp h).resolve_right hL).symm
      subst e
      rw [scatter_miss p v y L _ fun k₂ h₂ e => hL (hp (hk.symm.trans e) ▸ h₂)]
      exact if_pos hk

/-- Lane `k`, as an index. -/
abbrev lane (k : Fin 16) : S16.Idx := Shape.ofLane (d := ![16]) k

theorem storeIdx_eq (t : Fin k0_t1_loop.trips) (c : Fin 4) (f : Vec F S3584 .f32) (v : Vec F S16 .f32) (h : k0_chk17 (oIdx t c)) :
    storeIdx f ![oIdx t c] v (fun _ => 1#1) false h
      = (List.finRange 16).foldl (fun g (k : Fin 16) => fun j : S3584.Idx =>
          if (j 0).val = 56 * (16 * (t.val % 4) + k.val) + (4 * (t.val / 4) + c.val) then v (lane k) else g j) f := by
  refine congrArg (fun φ => List.foldl φ f (List.finRange 16)) (funext fun g => funext fun k => ?_)
  refine (if_pos (show (1#1 : BitVec 1) = 1 from rfl)).trans (funext fun j => ?_)
  by_cases e : (j 0).val = 56 * (16 * (t.val % 4) + k.val) + (4 * (t.val / 4) + c.val)
  · refine (if_pos fun a => ?_).trans (if_pos e).symm
    match a with
    | 0 => exact e.trans (oIdx_toNat t c (lane k)).symm
  · exact (if_neg fun h' => e ((h' 0).trans (oIdx_toNat t c (lane k)))).trans (if_neg e).symm

/-! ## The output -/

/-- What the task's output holds before trip `t`, the trip's first `c` filters done. -/
def OutOk (X W : ℕ → ℕ → F .f32) (t c : ℕ) (g : S3584.Idx → F .f32) : Prop :=
  ∀ y : S3584.Idx, (4 * ((y 0).val % 56 / 4) + (y 0).val / 56 / 16 < t ∨ (4 * ((y 0).val % 56 / 4) + (y 0).val / 56 / 16 = t ∧ (y 0).val % 56 % 4 < c)) →
    g y = total X W ((y 0).val / 56) ((y 0).val % 56)

theorem OutOk.zero (X W : ℕ → ℕ → F .f32) (g : S3584.Idx → F .f32) : OutOk X W 0 0 g := fun y h => by exfalso; omega

theorem OutOk.next {X W : ℕ → ℕ → F .f32} {t : ℕ} {g : S3584.Idx → F .f32} (h : OutOk X W t 4 g) : OutOk X W (t + 1) 0 g :=
  fun y hy => h y (by omega)

/-- One filter's scatter. -/
theorem OutOk.scatter {X W : ℕ → ℕ → F .f32} (t : Fin k0_t1_loop.trips) (c : Fin 4) {g : S3584.Idx → F .f32} (h : OutOk X W t.val c.val g)
    {v : Vec F S16 .f32} (hv : ∀ j : S16.Idx, v j = total X W (16 * (t.val % 4) + (j 0).val) (4 * (t.val / 4) + c.val)) (hc : k0_chk17 (oIdx t c)) :
    OutOk X W t.val (c.val + 1) (storeIdx (F := F) (e := .f32) g ![oIdx t c] v (fun _ => 1#1) false hc) := by
  intro y hy
  have hc4 := c.isLt
  have ht := lt_of_lt_of_eq t.isLt trips_eq
  have hy0 : (y 0).val < 3584 := (y 0).isLt
  rw [storeIdx_eq]
  by_cases hh : 4 * ((y 0).val % 56 / 4) + (y 0).val / 56 / 16 = t.val ∧ (y 0).val % 56 % 4 = c.val
  · have hk : (y 0).val / 56 % 16 < 16 := Nat.mod_lt _ (by omega)
    have e1 : 16 * (t.val % 4) + (y 0).val / 56 % 16 = (y 0).val / 56 := by omega
    have e2 : 4 * (t.val / 4) + c.val = (y 0).val % 56 := by omega
    rw [scatter_hit (fun k : Fin 16 => 56 * (16 * (t.val % 4) + k.val) + (4 * (t.val / 4) + c.val)) (fun a b e => Fin.ext (by dsimp only at e; omega))
      (fun k => v (lane k)) y ⟨(y 0).val / 56 % 16, hk⟩ (by dsimp only; omega) _ _ (List.mem_finRange _), hv]
    show total X W (16 * (t.val % 4) + (y 0).val / 56 % 16) _ = _
    rw [e1, e2]
  · have hm : ∀ k ∈ List.finRange 16, (y 0).val ≠ 56 * (16 * (t.val % 4) + k.val) + (4 * (t.val / 4) + c.val) := by
      intro k _ e
      have hk : k.val < 16 := k.isLt
      have e1 : (y 0).val / 56 = 16 * (t.val % 4) + k.val := by omega
      have e2 : (y 0).val % 56 = 4 * (t.val / 4) + c.val := by omega
      exact hh (by rw [e1, e2]; constructor <;> omega)
    rw [scatter_miss (fun k : Fin 16 => 56 * (16 * (t.val % 4) + k.val) + (4 * (t.val / 4) + c.val)) (fun k => v (lane k)) y _ _ hm]
    exact h y (by omega)

/-! ## The stages -/

/-- What a stage holds once `b` of its rows are in. -/
def StageOk (X W : ℕ → ℕ → F .f32) (t c b : ℕ) (g : S256.Idx → F .f32) : Prop :=
  ∀ y : S256.Idx, (y 0).val < 16 * b → g y = part X W (16 * (t % 4) + (y 0).val / 16) (4 * (t / 4) + c) ((y 0).val % 16)

theorem StageOk.zero (X W : ℕ → ℕ → F .f32) (t c : ℕ) (g : S256.Idx → F .f32) : StageOk X W t c 0 g := fun y h => by exfalso; omega

/-- The lanes of every row, out of a full stage. -/
theorem StageOk.loadIdx {X W : ℕ → ℕ → F .f32} {t c : ℕ} {g : S256.Idx → F .f32} (h : StageOk X W t c 16 g) (l : Fin 16) (hl : k0_chk1 (gIdx l)) (j : S16.Idx) :
    loadIdx (F := F) (e := .f32) g ![gIdx l] hl j = part X W (16 * (t % 4) + (j 0).val) (4 * (t / 4) + c) l.val := by
  have hj : (j 0).val < 16 := (j 0).isLt
  have hl' := l.isLt
  have e : ((idxAt ![gIdx l] hl j : S256.Idx) 0).val = 16 * (j 0).val + l.val := gIdx_toNat l j
  show g (idxAt ![gIdx l] hl j) = _
  rw [h _ (by rw [e]; omega), e]
  congr 1 <;> omega

end Cert.Proof

end
-- ==== Proof.Setup.lean ====
/-
  The program as the SparseCore launch theorem sees it, the ghost state's algebra, and what a task's thread holds of a
  buffer it reads and writes: the buffer with what its view reads off it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Scf
public import proofs.«01_k».proof.Proof.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A task's thread and what it holds -/

/-- The thread of the task at coordinates `i`. -/
abbrev thr (d : Dev nD) (i : grid0.Coords) : Thread nD τ := V d ((i 0).castLE hcore0) ((i 1).castLE hsub0)

variable [FloatOps F] (d : Dev nD) (i : grid0.Coords)

/-- A buffer held outright, its view reading `g`. -/
def Held {s : Shape} (m : Memref sig .scVector .vmem s .f32) (g : s.Idx → F .f32) : sProp 𝕄 :=
  iprop(∃ f, ⌜m.view.read (Elt F) f = g⌝ ∗ m.view.loc (thr d i) ↦[m.view.set]{fullShare} f)

variable {α : Type} {s : Shape} {m : Memref sig .scVector .vmem s .f32}

/-- A load through a rectangle reads the rectangle's part. -/
theorem held_load {Q : α → sProp 𝕄} {g : s.Idx → F .f32} {r : Rect s} {hl : m.view.LoadsAt r.toLoadRect} {k : (r.shape.Idx → Elt F .f32) → TileProg F i α} :
    Held d i m g ⊢ iprop((Held d i m g -∗ wp frame (wpE (defs₀ (F := F)) 𝒱₀ (thr d i) none) Set.univ (k fun x => g (r.emb x)) Q)
      -∗ wp frame (wpE (defs₀ (F := F)) 𝒱₀ (thr d i) none) Set.univ (.op (.load m r.toLoadRect hl) k) Q) := by
  unfold Held
  iintro ⟨%f, %hf, H⟩ Hk
  iapply (wp_load_rect 𝒱₀ (thr d i) none Set.univ (m := m) (r := r) (hl := hl) (k := k) (S := m.view.set) (q := fullShare) (f := f)
    (View.set_slice_subset _ r)) $$ H
  iintro H
  rw [show (m.access r).read (Elt F) f = fun x => g (r.emb x) from hf ▸ rfl]
  iapply Hk
  iexists f; isplitr; · ipureintro; exact hf
  iexact H

/-- A store through a rectangle puts the stored there and keeps the rest. -/
theorem held_store {Q : α → sProp 𝕄} {g g' : s.Idx → F .f32} {r : Rect s} {w : r.shape.Idx → Elt F .f32} {hx : (m.access r).Stores Finset.univ}
    {hm : (Finset.univ : Finset r.shape.Idx) = Finset.univ ∨ ∀ a, r.stride a = 1} {k : PUnit → TileProg F i α}
    (hin : ∀ x, g' (r.emb x) = w x) (hout : ∀ y, (∀ x, r.emb x ≠ y) → g' y = g y) :
    Held d i m g ⊢ iprop((Held d i m g' -∗ wp frame (wpE (defs₀ (F := F)) 𝒱₀ (thr d i) none) Set.univ (k ⟨⟩) Q)
      -∗ wp frame (wpE (defs₀ (F := F)) 𝒱₀ (thr d i) none) Set.univ (.op (.store m r w Finset.univ hx hm) k) Q) := by
  unfold Held
  iintro ⟨%f, %hf, H⟩ Hk
  iapply (wp_store 𝒱₀ (thr d i) none Set.univ (m := m) (r := r) (w := w) (Mk := Finset.univ) (hx := hx) (hm := hm) (k := k) (S := m.view.set) (f := f)
    (View.set_slice_subset _ r)) $$ H
  iintro H
  iapply Hk
  iexists (m.access r).write (Elt F) f w Finset.univ; isplitr
  · ipureintro
    funext y
    by_cases hy : ∃ x, r.emb x = y
    · obtain ⟨x, rfl⟩ := hy
      exact (View.read_slice_write_emb r f w (Finset.mem_univ x)).trans (hin x).symm
    · refine (View.read_slice_write_of_not_mem r f w Finset.univ fun h => ?_).trans ((congrFun hf y).trans (hout y fun x e => hy ⟨x, e⟩).symm)
      obtain ⟨x, -, e⟩ := Finset.mem_map.mp h
      exact hy ⟨x, e⟩
  iexact H

theorem whole_emb (x : (Rect.whole s).shape.Idx) : (Rect.whole s).emb x = x :=
  funext fun a => Fin.ext (show 0 + 1 * (x a).val = (x a).val by omega)

/-- An indexed load. -/
theorem held_loadIdx {t : Shape} {Q : Vec F t .f32 → sProp 𝕄} {g : s.Idx → F .f32} {idxs : Fin s.rank → IVec t 32} {h : ∀ a x, (idxs a x).toNat < s.size a} {hl : m.view.Loads} :
    Held d i m g ⊢ iprop((Held d i m g -∗ Q (loadIdx (F := F) (e := .f32) g idxs h))
      -∗ wp frame (wpE (defs₀ (F := F)) 𝒱₀ (thr d i) none) Set.univ (SparseCore.vectorLoadIdx m idxs h hl : TileProg F i _) Q) := by
  unfold SparseCore.vectorLoadIdx
  iintro H Hk
  iapply (held_load d i (m := m) (g := g) (r := Rect.whole s)) $$ H
  iintro H
  rw [wp_ret, show (fun x => g ((Rect.whole s).emb x)) = g from funext fun x => congrArg g (whole_emb x)]
  imodintro
  iapply Hk; iexact H

/-- An indexed store of every lane. -/
theorem held_storeIdx {Q : PUnit → sProp 𝕄} {b : Fin 1 → ℕ} {g : s.Idx → F .f32} {idxs : Fin s.rank → IVec ⟨1, b⟩ 32} {v : Vec F ⟨1, b⟩ .f32} {mask : IVec ⟨1, b⟩ 1} {add : Bool}
    {h : ∀ a x, (idxs a x).toNat < s.size a} {hs : (m.access (.whole s)).Stores Finset.univ} :
    Held d i m g ⊢ iprop((Held d i m (storeIdx (F := F) (e := .f32) g idxs v mask add h) -∗ Q ⟨⟩)
      -∗ wp frame (wpE (defs₀ (F := F)) 𝒱₀ (thr d i) none) Set.univ (SparseCore.vectorStoreIdx m idxs v mask add h hs : TileProg F i _) Q) := by
  unfold SparseCore.vectorStoreIdx
  iintro H Hk
  iapply (held_load d i (m := m) (g := g) (r := Rect.whole s)) $$ H
  iintro H
  rw [show (fun x => g ((Rect.whole s).emb x)) = g from funext fun x => congrArg g (whole_emb x)]
  iapply (held_store d i (m := m) (g := g) (r := Rect.whole s) (g' := storeIdx (F := F) (e := .f32) g idxs v mask add h)
    (fun x => congrArg _ (whole_emb x)) (fun y hy => absurd (whole_emb y) (hy y))) $$ H
  iintro H
  rw [wp_ret]
  imodintro
  iapply Hk; iexact H

end Cert.Proof

end
-- ==== Proof.Trip.lean ====
/-
  One trip with its value: from the task's rows of `x` and the weights, each read as a function of row and column, the
  trip leaves the sixteen rows' totals against its four filters in the task's output and keeps the rest of it.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords) (X W : ℕ → ℕ → F .f32)
variable (x : Memref sig .scVector .vmem S64x1024 .f32) (w : Memref sig .scVector .vmem S56x128 .f32)
  (o : Memref sig .scVector .vmem S3584 .f32) (st : Memref sig .scVector .vmem S256 .f32)

/-- The task's rows of `x`, held, -/
abbrev HX : sProp 𝕄 := Held d i x fun y : S64x1024.Idx => X (y 0).val (y 1).val
/-- the weights, -/
abbrev HW : sProp 𝕄 := Held d i w fun y : S56x128.Idx => W (y 0).val (y 1).val
/-- a stage with `b` rows in, -/
def HS (t c b : ℕ) : sProp 𝕄 := iprop(∃ g, ⌜StageOk X W t c b g⌝ ∗ Held d i st g)
/-- a stage at anything, -/
def HA : sProp 𝕄 := iprop(∃ g, Held d i st g)
/-- and the output so far. -/
def HO (t c : ℕ) : sProp 𝕄 := iprop(∃ g, ⌜OutOk X W t c g⌝ ∗ Held d i o g)

/-- Answers in a row, from the same holdings each: all of them. -/
theorem wp_gather {α : Type} (R : sProp 𝕄) : ∀ (n : ℕ) (f : Fin n → TileProg F i α) (v : Fin n → α)
    (hf : ∀ (k : Fin n) (Q : α → sProp 𝕄), R ⊢ iprop((R -∗ Q (v k)) -∗ wp frame (wpE (defs₀ (F := F)) 𝒱₀ (thr d i) none) Set.univ (f k) Q))
    (Q : (Fin n → α) → sProp 𝕄),
    R ⊢ iprop((R -∗ Q v) -∗ wp frame (wpE (defs₀ (F := F)) 𝒱₀ (thr d i) none) Set.univ (gather n f) Q)
  | 0, f, v, _, Q => by
    unfold gather
    rw [wp_ret, show (Fin.elim0 : Fin 0 → α) = v from funext fun k => k.elim0]
    iintro H Hk
    imodintro
    iapply Hk; iexact H
  | n + 1, f, v, hf, Q => by
    unfold gather
    rw [wp_bind]
    iintro H Hk
    iapply (hf 0 _) $$ H
    iintro H
    rw [wp_bind]
    iapply (wp_gather R n (fun k => f k.succ) (fun k => v k.succ) (fun k Q => hf k.succ Q) _) $$ H
    iintro H
    rw [wp_ret, show (Fin.cons (v 0) fun k : Fin n => v k.succ : Fin (n + 1) → α) = v from Fin.cons_self_tail v]
    imodintro
    iapply Hk; iexact H

theorem wp_loadX (t : Fin k0_t1_loop.trips) (b : Fin 16) (k : Fin 8) (Q : Vec F S16 .f32 → sProp 𝕄) :
    HX d i X x ⊢ iprop((HX d i X x -∗ Q (chX X t b k)) -∗ wp frame (wpE (defs₀ (F := F)) 𝒱₀ (thr d i) none) Set.univ (loadX x t b k) Q) := by
  have e : shapeCast (α := Elt F .f32) S16 _ Facts₀.shapeCasts_S1x16_S16 = chX X t b k := funext fun j =>
    (chunk_apply (a := 64) (b := 1024) (offX_inb t b k) X j).trans (by rw [offX_eq]; rfl)
  have h : HX d i X x ⊢ iprop((HX d i X x -∗ wp frame (wpE (defs₀ (F := F)) 𝒱₀ (thr d i) none) Set.univ (.ret (chX X t b k)) Q)
      -∗ wp frame (wpE (defs₀ (F := F)) 𝒱₀ (thr d i) none) Set.univ (loadX x t b k) Q) :=
    (held_load d i (m := x) (Q := Q) (hl := View.loadsAt_vmem Facts₀.h_S1x16)).trans (wand_mono_left (wand_mono_right
      (Entails.of_eq (congrArg (fun v => wp frame (wpE (defs₀ (F := F)) 𝒱₀ (thr d i) none) Set.univ (.ret v) Q) e.symm))))
  iintro H Hk
  iapply h $$ H
  iintro H
  rw [wp_ret]
  imodintro
  iapply Hk; iexact H

theorem wp_loadW (t : Fin k0_t1_loop.trips) (c : Fin 4) (k : Fin 8) (Q : Vec F S16 .f32 → sProp 𝕄) :
    HW d i W w ⊢ iprop((HW d i W w -∗ Q (chW W t c k)) -∗ wp frame (wpE (defs₀ (F := F)) 𝒱₀ (thr d i) none) Set.univ (loadW w t c k) Q) := by
  have e : shapeCast (α := Elt F .f32) S16 _ Facts₀.shapeCasts_S1x16_S16 = chW W t c k := funext fun j =>
    (chunk_apply (a := 56) (b := 128) (offW_inb t c k) W j).trans (by rw [offW_eq]; rfl)
  have h : HW d i W w ⊢ iprop((HW d i W w -∗ wp frame (wpE (defs₀ (F := F)) 𝒱₀ (thr d i) none) Set.univ (.ret (chW W t c k)) Q)
      -∗ wp frame (wpE (defs₀ (F := F)) 𝒱₀ (thr d i) none) Set.univ (loadW w t c k) Q) :=
    (held_load d i (m := w) (Q := Q) (hl := View.loadsAt_vmem Facts₀.h_S1x16)).trans (wand_mono_left (wand_mono_right
      (Entails.of_eq (congrArg (fun v => wp frame (wpE (defs₀ (F := F)) 𝒱₀ (thr d i) none) Set.univ (.ret v) Q) e.symm))))
  iintro H Hk
  iapply h $$ H
  iintro H
  rw [wp_ret]
  imodintro
  iapply Hk; iexact H

/-- One row of a stage. -/
theorem wp_stageOne (t : Fin k0_t1_loop.trips) (c : Fin 4) (b : Fin 16) (Q : PUnit → sProp 𝕄) {c' : ℕ} (hc : c.val = c') :
    HS d i X W st t.val c' b.val ⊢ iprop((HS d i X W st t.val c' (b.val + 1) -∗ Q ⟨⟩)
      -∗ wp frame (wpE (defs₀ (F := F)) 𝒱₀ (thr d i) none) Set.univ (stageOne st b (dot8 (chX X t b) (chW W t c))) Q) := by
  subst hc
  unfold stageOne HS
  iintro ⟨%g, %hg, H⟩ Hk
  iapply (held_load d i (m := st)) $$ H
  iintro H
  have e (y : S16.Idx) : ((Rect.unit (s := S256) ![16 * b.val] S16.size (offS_inb b)).emb y 0).val = 16 * b.val + (y 0).val :=
    show 16 * b.val + 1 * (y 0).val = _ by omega
  iapply (held_store d i (m := st) (g := g) (g' := fun y : S256.Idx => if 16 * b.val ≤ (y 0).val ∧ (y 0).val < 16 * b.val + 16
      then part X W (16 * (t.val % 4) + (y 0).val / 16) (4 * (t.val / 4) + c.val) ((y 0).val % 16) else g y)
      (fun y => by
        have hy : (y 0).val < 16 := (y 0).isLt
        rw [dot8_chunks]
        dsimp only
        rw [e y, if_pos (by omega), show (16 * b.val + (y 0).val) / 16 = b.val by omega, show (16 * b.val + (y 0).val) % 16 = (y 0).val by omega])
      (fun y hy => if_neg fun h => hy (fun | 0 => ⟨(y 0).val - 16 * b.val, show (y 0).val - 16 * b.val < 16 by omega⟩) (funext fun a => Fin.ext (by
        match a with
        | 0 => show 16 * b.val + 1 * ((y 0).val - 16 * b.val) = (y 0).val; omega)))) $$ H
  iintro H
  rw [wp_ret]
  imodintro
  iapply Hk
  iexists _; isplitr
  swap; · iexact H
  ipureintro
  intro y hy
  dsimp only
  split
  · rfl
  · exact hg y (by omega)

/-- The stages of the four filters. -/
abbrev HS4 (s0 s1 s2 s3 : Memref sig .scVector .vmem S256 .f32) (t b : ℕ) : sProp 𝕄 :=
  iprop(HS d i X W s0 t 0 b ∗ HS d i X W s1 t 1 b ∗ HS d i X W s2 t 2 b ∗ HS d i X W s3 t 3 b)

variable (s0 s1 s2 s3 : Memref sig .scVector .vmem S256 .f32)

/-- One row of the group. -/
theorem wp_rowStep (t : Fin k0_t1_loop.trips) (b : Fin 16) (Q : PUnit → sProp 𝕄) :
    iprop(HX d i X x ∗ HS4 d i X W s0 s1 s2 s3 t.val b.val)
      ⊢ iprop((HX d i X x ∗ HS4 d i X W s0 s1 s2 s3 t.val (b.val + 1) -∗ Q ⟨⟩)
        -∗ wp frame (wpE (defs₀ (F := F)) 𝒱₀ (thr d i) none) Set.univ (rowStep x s0 s1 s2 s3 t (chW W t) b) Q) := by
  unfold rowStep
  iintro ⟨Hx, H0, H1, H2, H3⟩ Hk
  rw [wp_bind]
  iapply (wp_gather d i (HX d i X x) 8 (loadX x t b) (chX X t b) (fun k Q => wp_loadX d i X x t b k Q) _) $$ Hx
  iintro Hx
  rw [wp_bind]
  iapply (wp_stageOne d i X W s0 t 0 b _ (c' := 0) rfl) $$ H0
  iintro H0
  rw [wp_bind]
  iapply (wp_stageOne d i X W s1 t 1 b _ (c' := 1) rfl) $$ H1
  iintro H1
  rw [wp_bind]
  iapply (wp_stageOne d i X W s2 t 2 b _ (c' := 2) rfl) $$ H2
  iintro H2
  iapply (wp_stageOne d i X W s3 t 3 b _ (c' := 3) rfl) $$ H3
  iintro H3
  iapply Hk
  isplitl [Hx]; · iexact Hx
  isplitl [H0]; · iexact H0
  isplitl [H1]; · iexact H1
  isplitl [H2]; · iexact H2
  iexact H3

/-- The sixteen rows of the group. -/
theorem wp_rows (t : Fin k0_t1_loop.trips) (Q : PUnit → sProp 𝕄) :
    iprop(HX d i X x ∗ HS4 d i X W s0 s1 s2 s3 t.val 0)
      ⊢ iprop((HX d i X x ∗ HS4 d i X W s0 s1 s2 s3 t.val 16 -∗ Q ⟨⟩)
        -∗ wp frame (wpE (defs₀ (F := F)) 𝒱₀ (thr d i) none) Set.univ
          (Scf.forFrom (fun b _ => rowStep x s0 s1 s2 s3 t (chW W t) b) (List.finRange 16) ⟨⟩) Q) := by
  iintro H Hk
  iapply (Scf.wp_forFrom frame (wpE (defs₀ (F := F)) 𝒱₀ (thr d i) none) Set.univ (fun (b : Fin 16) (_ : PUnit) => rowStep x s0 s1 s2 s3 t (chW W t) b)
    (fun b _ => iprop(HX d i X x ∗ HS4 d i X W s0 s1 s2 s3 t.val b)) (fun b _ => by
      iintro H
      iapply (wp_rowStep d i X W x s0 s1 s2 s3 t b _) $$ H
      iintro H; iexact H) 0 (Nat.zero_le _) ⟨⟩)
  isplitl [H]; · iexact H
  iintro %_ H
  iapply Hk; iexact H

/-- One gather out of a full stage. -/
theorem wp_gatherOne (t : Fin k0_t1_loop.trips) (c : Fin 4) (l : Fin 16) (Q : Vec F S16 .f32 → sProp 𝕄) :
    HS d i X W st t.val c.val 16
      ⊢ iprop((HS d i X W st t.val c.val 16 -∗ Q fun j => part X W (16 * (t.val % 4) + (j 0).val) (4 * (t.val / 4) + c.val) l.val)
        -∗ wp frame (wpE (defs₀ (F := F)) 𝒱₀ (thr d i) none) Set.univ (gatherOne st l) Q) := by
  unfold gatherOne HS
  iintro ⟨%g, %hg, H⟩ Hk
  rw [wp_assume_of _ _ _ _ (gIdx_inb l)]
  iapply (held_loadIdx d i (m := st)) $$ H
  iintro H
  rw [show loadIdx (F := F) (e := .f32) g ![gIdx l] (gIdx_inb l)
    = fun j => part X W (16 * (t.val % 4) + (j 0).val) (4 * (t.val / 4) + c.val) l.val from funext fun j => hg.loadIdx l (gIdx_inb l) j]
  iapply Hk
  iexists g; isplitr; · ipureintro; exact hg
  iexact H

/-- One filter's totals. -/
theorem wp_filterStep (t : Fin k0_t1_loop.trips) (c : Fin 4) (Q : PUnit → sProp 𝕄) {c' : ℕ} (hc : c.val = c') :
    iprop(HS d i X W st t.val c' 16 ∗ HO d i X W o t.val c')
      ⊢ iprop((HS d i X W st t.val c' 16 ∗ HO d i X W o t.val (c' + 1) -∗ Q ⟨⟩)
        -∗ wp frame (wpE (defs₀ (F := F)) 𝒱₀ (thr d i) none) Set.univ (filterStep o t st c) Q) := by
  subst hc
  unfold filterStep
  iintro ⟨Hs, Ho⟩ Hk
  rw [wp_bind]
  iapply (wp_gatherOne d i X W st t c 0 _) $$ Hs
  iintro Hs
  rw [wp_bind]
  iapply (Scf.wp_forFrom frame (wpE (defs₀ (F := F)) 𝒱₀ (thr d i) none) Set.univ
    (fun (l : Fin 15) (tot : FVec F S16 .f32) => gatherOne (i := i) st l.succ >>= fun u => .ret (addf tot u))
    (fun l tot => iprop(⌜tot = fun j => sumTo (part X W (16 * (t.val % 4) + (j 0).val) (4 * (t.val / 4) + c.val)) l⌝ ∗ HS d i X W st t.val c.val 16))
    (fun l tot => by
      iintro ⟨%ht, Hs⟩
      rw [wp_bind]
      iapply (wp_gatherOne d i X W st t c l.succ _) $$ Hs
      iintro Hs
      rw [wp_ret]
      imodintro
      isplitr; · ipureintro; rw [ht]; rfl
      iexact Hs) 0 (Nat.zero_le _) _)
  isplitl [Hs]
  · isplitr; · ipureintro; rfl
    iexact Hs
  iintro %tot ⟨%htot, Hs⟩
  rw [wp_assume_of _ _ _ _ (oIdx_inb t c)]
  unfold HO
  icases Ho with ⟨%g, %hg, Ho⟩
  iapply (held_storeIdx d i (m := o)) $$ Ho
  iintro Ho
  iapply Hk
  isplitl [Hs]; · iexact Hs
  iexists _; isplitr
  swap; · iexact Ho
  ipureintro
  exact hg.scatter t c (fun j => by rw [htot]; rfl) _

/-- A full stage is a stage at something. -/
theorem hs_ha (t c b : ℕ) : HS d i X W st t c b ⊢ HA d i st := by
  unfold HS HA
  iintro ⟨%g, -, H⟩
  iexists g; iexact H

/-- A stage at anything has no row in yet. -/
theorem ha_hs (t c : ℕ) : HA d i st ⊢ HS d i X W st t c 0 := by
  unfold HS HA
  iintro ⟨%g, H⟩
  iexists g; isplitr; · ipureintro; exact StageOk.zero X W t c g
  iexact H

/-- What a trip starts from and ends with. -/
def TripInv (n : ℕ) : sProp 𝕄 :=
  iprop(HX d i X x ∗ HW d i W w ∗ HO d i X W o n 0 ∗ HA d i s0 ∗ HA d i s1 ∗ HA d i s2 ∗ HA d i s3)

/-- The trip. -/
theorem wp_trip (t : Fin k0_t1_loop.trips) (Q : PUnit → sProp 𝕄) :
    TripInv d i X W x w o s0 s1 s2 s3 t.val
      ⊢ iprop((TripInv d i X W x w o s0 s1 s2 s3 (t.val + 1) -∗ Q ⟨⟩)
        -∗ wp frame (wpE (defs₀ (F := F)) 𝒱₀ (thr d i) none) Set.univ (trip x w o s0 s1 s2 s3 t) Q) := by
  unfold TripInv trip
  iintro ⟨Hx, Hw, Ho, H0, H1, H2, H3⟩ Hk
  rw [wp_bind]
  iapply (wp_gather d i (HW d i W w) 4 (fun c => gather 8 (loadW (i := i) w t c)) (chW W t)
    (fun c Q => wp_gather d i (HW d i W w) 8 (loadW w t c) (chW W t c) (fun k Q => wp_loadW d i W w t c k Q) Q) _) $$ Hw
  iintro Hw
  ihave H0 := (ha_hs d i X W s0 t.val 0) $$ H0
  ihave H1 := (ha_hs d i X W s1 t.val 1) $$ H1
  ihave H2 := (ha_hs d i X W s2 t.val 2) $$ H2
  ihave H3 := (ha_hs d i X W s3 t.val 3) $$ H3
  rw [wp_bind]
  iapply (wp_rows d i X W x s0 s1 s2 s3 t _) $$ [Hx H0 H1 H2 H3]
  · isplitl [Hx]; · iexact Hx
    isplitl [H0]; · iexact H0
    isplitl [H1]; · iexact H1
    isplitl [H2]; · iexact H2
    iexact H3
  iintro ⟨Hx, H0, H1, H2, H3⟩
  rw [wp_bind]
  iapply (wp_filterStep d i X W o s0 t 0 _ (c' := 0) rfl) $$ [H0 Ho]
  · isplitl [H0] <;> iassumption
  iintro ⟨H0, Ho⟩
  rw [wp_bind]
  iapply (wp_filterStep d i X W o s1 t 1 _ (c' := 1) rfl) $$ [H1 Ho]
  · isplitl [H1] <;> iassumption
  iintro ⟨H1, Ho⟩
  rw [wp_bind]
  iapply (wp_filterStep d i X W o s2 t 2 _ (c' := 2) rfl) $$ [H2 Ho]
  · isplitl [H2] <;> iassumption
  iintro ⟨H2, Ho⟩
  iapply (wp_filterStep d i X W o s3 t 3 _ (c' := 3) rfl) $$ [H3 Ho]
  · isplitl [H3] <;> iassumption
  iintro ⟨H3, Ho⟩
  iapply Hk
  isplitl [Hx]; · iexact Hx
  isplitl [Hw]; · iexact Hw
  isplitl [Ho]
  · unfold HO
    icases Ho with ⟨%g, %hg, Ho⟩
    iexists g; isplitr; · ipureintro; exact OutOk.next hg
    iexact Ho
  isplitl [H0]; · iapply (hs_ha d i X W s0 t.val 0 16); iexact H0
  isplitl [H1]; · iapply (hs_ha d i X W s1 t.val 1 16); iexact H1
  isplitl [H2]; · iapply (hs_ha d i X W s2 t.val 2 16); iexact H2
  iapply (hs_ha d i X W s3 t.val 3 16); iexact H3

end Cert.Proof

end
-- ==== Proof.Tile.lean ====
/-
  One task, at any SparseCore and tile: its 64 rows of `x` and the weights copied in, the 56 trips, and its 3584 totals
  copied out to its own stretch of the flat result.
-/
module

public import proofs.«01_k».proof.Proof.CompactEq
public import proofs.«01_k».proof.Proof.Trip

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

abbrev xLoc (d : Dev nD) : Loc nD τ sig := (SparseCore.T d).loc main_arg0
abbrev wLoc (d : Dev nD) : Loc nD τ sig := (SparseCore.T d).loc main_arg1
abbrev oLoc (d : Dev nD) : Loc nD τ sig := (SparseCore.T d).loc main_v0

abbrev xV : Memref sig .scVector .hbm S2048x1024 .f32 := Memref.whole main_arg0_scv
abbrev wV : Memref sig .scVector .hbm S56x128 .f32 := Memref.whole main_arg1_scv
abbrev oV : Memref sig .scVector .hbm S114688 .f32 := Memref.whole main_v0_scv
abbrev bX : Memref sig .scVector .vmem S64x1024 .f32 := Memref.whole cc0_scratch0
abbrev bW : Memref sig .scVector .vmem S56x128 .f32 := Memref.whole cc0_scratch1
abbrev bO : Memref sig .scVector .vmem S3584 .f32 := Memref.whole cc0_scratch2
abbrev b0 : Memref sig .scVector .vmem S256 .f32 := Memref.whole cc0_scratch3
abbrev b1 : Memref sig .scVector .vmem S256 .f32 := Memref.whole cc0_scratch4
abbrev b2 : Memref sig .scVector .vmem S256 .f32 := Memref.whole cc0_scratch5
abbrev b3 : Memref sig .scVector .vmem S256 .f32 := Memref.whole cc0_scratch6

variable [FloatOps F] (m : (ℓ : Loc nD τ sig) → Buf (Elt F) ℓ)

/-- `x` and the weights by row and column, -/
def xAt (d : Dev nD) : ℕ → ℕ → F .f32 := nat2 (a := 2047) (b := 1023) (m (xLoc d))
def wAt (d : Dev nD) : ℕ → ℕ → F .f32 := nat2 (a := 55) (b := 127) (m (wLoc d))
/-- and the flat result: element `b * 56 + n` is row `b`'s total against filter `n`. -/
def flat (d : Dev nD) : Buf (Elt F) (oLoc d) := fun y : S114688.Idx => total (xAt m d) (wAt m d) ((y 0).val / 56) ((y 0).val % 56)

/-- The stretch of the flat result that the task on tile `s` of SparseCore `c` fills. -/
def tileSet (c s : ℕ) : Finset S114688.Idx := Finset.univ.filter fun y => (y 0).val / 3584 = 2 * s + c

variable (d : Dev nD) (i : grid0.Coords)

/-- The stretch as the task addresses it. -/
abbrev oK : Memref sig .scVector .hbm S3584 .f32 := (oV).slice (Rect.unit (s := S114688) (k0_off11 i) S3584.size (k0_off11_inb i)) (fun _ => rfl)

omit [FloatOps F] in
theorem set_oK : (oK i).view.set = tileSet (i 0).val (i 1).val := by
  show ((View.whole (main_v0_scv : Ref sig .scVector)).slice (Rect.unit (s := S114688) (k0_off11 i) S3584.size (k0_off11_inb i))).set = _
  rw [View.set_slice_whole]
  ext y
  rw [Rect.mem_set_unit, tileSet, Finset.mem_filter]
  have h0 : (i 0).val < 2 := (i 0).isLt
  have h1 : (i 1).val < 16 := (i 1).isLt
  constructor
  · intro h
    have h := h 0
    rw [k0_off11_eq] at h
    refine ⟨Finset.mem_univ y, ?_⟩
    have e : (![7168 * (i 1).val + 3584 * (i 0).val] : Fin 1 → ℕ) 0 = 7168 * (i 1).val + 3584 * (i 0).val := rfl
    have e' : S3584.size 0 = 3584 := rfl
    rw [e, e'] at h
    omega
  · rintro ⟨-, h⟩ a
    match a with
    | 0 =>
      rw [k0_off11_eq]
      show 7168 * (i 1).val + 3584 * (i 0).val ≤ (y 0).val ∧ (y 0).val < 7168 * (i 1).val + 3584 * (i 0).val + 3584
      omega

omit [FloatOps F] in
theorem pts_oK (f : Buf (Elt F) (oLoc d)) :
    ((oK i).view.loc (thr d i) ↦[(oK i).view.set]{fullShare} f : sProp 𝕄) = oLoc d ↦[tileSet (i 0).val (i 1).val]{fullShare} f := by
  rw [set_oK]

/-! ## What the task's thread owns of its own -/

omit [FloatOps F] in
/-- The members that a one-to-one function names, and the rest. -/
theorem bigSep_named {I J : Type} [DecidableEq I] [DecidableEq J] {s : Finset I} {t : Finset J} {f : J → I} (inj : Set.InjOn f t)
    (sub : ∀ j ∈ t, f j ∈ s) (Φ : I → sProp 𝕄) :
    bigSep s Φ = iprop(bigSep t (fun j => Φ (f j)) ∗ bigSep (s \ t.image f) Φ) := by
  rw [← SparseCore.bigSep_image_of_injOn inj, ← SparseCore.bigSep_union' Finset.disjoint_sdiff,
    Finset.union_sdiff_of_subset (Finset.image_subset_iff.mpr sub)]

omit [FloatOps F] in
/-- The seven scratch buffers and the rest. -/
theorem ownBufs_thr :
    (ownBufs (thr d i) : sProp 𝕄)
      = iprop(((∃ f, (bX).view.loc (thr d i) ↦{fullShare} f) ∗ (∃ f, (bW).view.loc (thr d i) ↦{fullShare} f) ∗ (∃ f, (bO).view.loc (thr d i) ↦{fullShare} f)
          ∗ (∃ f, (b0).view.loc (thr d i) ↦{fullShare} f) ∗ (∃ f, (b1).view.loc (thr d i) ↦{fullShare} f) ∗ (∃ f, (b2).view.loc (thr d i) ↦{fullShare} f)
          ∗ (∃ f, (b3).view.loc (thr d i) ↦{fullShare} f))
        ∗ bigSep (ownRefs (τ := τ) (thr d i).2 \ ({cc0_scratch0, cc0_scratch1, cc0_scratch2, cc0_scratch3, cc0_scratch4, cc0_scratch5, cc0_scratch6} : Finset (Ref sig .scVector)).image (thr d i).2.devRef)
            fun b => iprop(∃ f, ((d, b) : Loc nD τ sig) ↦{fullShare} f)) := by
  unfold SparseCore.Cfg.ownBufs
  rw [bigSep_named (t := ({cc0_scratch0, cc0_scratch1, cc0_scratch2, cc0_scratch3, cc0_scratch4, cc0_scratch5, cc0_scratch6} : Finset (Ref sig .scVector)))
      (f := (thr d i).2.devRef) ((Proc.devRef_injective _).injOn) (fun b hb => by
        simp only [Finset.mem_insert, Finset.mem_singleton] at hb
        rcases hb with rfl | rfl | rfl | rfl | rfl | rfl | rfl <;> exact SparseCore.Cfg.mem_ownRefs_of_owner rfl),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

abbrev cell (s : DmaSem sig) : GSem nD τ sig := (thr d i, .dma s)

omit [FloatOps F] in
/-- The three copies' semaphores and the rest. -/
theorem ownSems0_thr :
    (ownSems0 (thr d i) : sProp 𝕄)
      = iprop((semVal (cell d i cc0_scoped0.sem) 0 ∗ semVal (cell d i cc0_scoped1.sem) 0 ∗ semVal (cell d i cc0_scoped2.sem) 0)
        ∗ bigSep (ownCells (thr d i) \ ({cc0_scoped0.sem, cc0_scoped1.sem, cc0_scoped2.sem} : Finset (DmaSem sig)).image (cell d i)) fun g => semVal g 0) := by
  unfold SparseCore.Cfg.ownSems0
  rw [bigSep_named (t := ({cc0_scoped0.sem, cc0_scoped1.sem, cc0_scoped2.sem} : Finset (DmaSem sig)))
      (f := cell d i) (fun a _ b _ e => by injection e with _ e; injection e) (fun b hb => by
        simp only [Finset.mem_insert, Finset.mem_singleton] at hb
        rcases hb with rfl | rfl | rfl
        · exact mem_ownCells.mpr ⟨rfl, by show (SemLoc.dma cc0_scoped0.sem : SemLoc sig).isScoped .scVector = true; decide⟩
        · exact mem_ownCells.mpr ⟨rfl, by show (SemLoc.dma cc0_scoped1.sem : SemLoc sig).isScoped .scVector = true; decide⟩
        · exact mem_ownCells.mpr ⟨rfl, by show (SemLoc.dma cc0_scoped2.sem : SemLoc sig).isScoped .scVector = true; decide⟩),
    SparseCore.bigSep_insert' (by decide), SparseCore.bigSep_insert' (by decide), bigSep_singleton]

/-! ## The task -/

/-- A whole buffer, as the task's body holds it: outright, reading what it holds. -/
theorem held_of {s : Shape} {b : Memref sig .scVector .vmem s .f32} (hb : b.view.set = Finset.univ) (f : Buf (Elt F) (b.view.loc (thr d i))) :
    (b.view.loc (thr d i) ↦{fullShare} f : sProp 𝕄) ⊢ Held d i b (b.view.read (Elt F) f) := by
  unfold Held
  iintro H
  iexists f; isplitr; · ipureintro; rfl
  rw [hb]; iexact H

/-- And back. -/
theorem of_held {s : Shape} {b : Memref sig .scVector .vmem s .f32} (hb : b.view.set = Finset.univ) (g : s.Idx → F .f32) :
    Held d i b g ⊢ (iprop(∃ f, ⌜b.view.read (Elt F) f = g⌝ ∗ b.view.loc (thr d i) ↦{fullShare} f) : sProp 𝕄) := by
  unfold Held
  rw [hb]

/-- What the task on tile `s` of SparseCore `c` is handed: a read share of `x` and of the weights, and its stretch of the flat result at `f`. -/
abbrev tilePts (q : PosShare TreeShare) (c s : ℕ) (f : Buf (Elt F) (oLoc d)) : sProp 𝕄 :=
  iprop((xLoc d ↦{q} m (xLoc d)) ∗ (wLoc d ↦{q} m (wLoc d)) ∗ oLoc d ↦[tileSet c s]{fullShare} f)

/-- The task's rows of `x`. -/
def xRow (r c : ℕ) : F .f32 := xAt m d (128 * (i 1).val + 64 * (i 0).val + r) c

/-- The copied rows are the rows. -/
theorem read_x (f : Buf (Elt F) ((bX).view.loc (thr d i))) :
    (bX).view.read (Elt F) (View.write (Elt F) (bX).view f
        (((xV).slice (Rect.unit (s := S2048x1024) (k0_off1 i) S64x1024.size (k0_off1_inb i)) (fun _ => rfl)).view.read (Elt F) (m (xLoc d))) Finset.univ)
      = fun y : S64x1024.Idx => xRow m d i (y 0).val (y 1).val := by
  rw [View.write_whole_univ]
  funext y
  show m (xLoc d) ((Rect.unit (s := S2048x1024) (k0_off1 i) S64x1024.size (k0_off1_inb i)).emb y) = _
  rw [← nat2_idx (a := 2047) (b := 1023) (m (xLoc d)) ((Rect.unit (s := S2048x1024) (k0_off1 i) S64x1024.size (k0_off1_inb i)).emb y)]
  unfold xRow xAt
  congr 1
  · show k0_off1 i 0 + 1 * (y 0).val = _
    rw [k0_off1_eq, Nat.one_mul]; rfl
  · show k0_off1 i 1 + 1 * (y 1).val = _
    rw [k0_off1_eq, Nat.one_mul]; exact Nat.zero_add _

/-- The copied weights are the weights. -/
theorem read_w (f : Buf (Elt F) ((bW).view.loc (thr d i))) :
    (bW).view.read (Elt F) (View.write (Elt F) (bW).view f ((wV).view.read (Elt F) (m (wLoc d))) Finset.univ)
      = fun y : S56x128.Idx => wAt m d (y 0).val (y 1).val := by
  rw [View.write_whole_univ]
  funext y
  exact (nat2_idx (a := 55) (b := 127) (m (wLoc d)) y).symm

/-- The totals copied out are the flat result's stretch. -/
theorem write_o (f : Buf (Elt F) (oLoc d)) (g : S3584.Idx → F .f32) (hf : (oK i).view.read (Elt F) f = g) (h : OutOk (xRow m d i) (wAt m d) 56 0 g) :
    ∀ y ∈ (oK i).view.set, f y = flat m d y := by
  intro y hy
  obtain ⟨z, -, rfl⟩ := Finset.mem_map.mp hy
  have hz : (z 0).val < 3584 := (z 0).isLt
  have e : ((oK i).view.emb z 0).val = 7168 * (i 1).val + 3584 * (i 0).val + (z 0).val := by
    show k0_off11 i 0 + 1 * (z 0).val = _
    rw [k0_off11_eq, Nat.one_mul]; rfl
  refine (congrFun hf z).trans ((h z (Or.inl (by omega))).trans ?_)
  show total (fun r c => xAt m d (128 * (i 1).val + 64 * (i 0).val + r) c) (wAt m d) _ _
    = total (xAt m d) (wAt m d) (((oK i).view.emb z 0).val / 56) (((oK i).view.emb z 0).val % 56)
  rw [e, show (7168 * (i 1).val + 3584 * (i 0).val + (z 0).val) / 56 = 128 * (i 1).val + 64 * (i 0).val + (z 0).val / 56 by omega,
    show (7168 * (i 1).val + 3584 * (i 0).val + (z 0).val) % 56 = (z 0).val % 56 by omega]
  rfl

set_option maxRecDepth 65536 in
set_option maxHeartbeats 4000000 in
/-- The printed trip, over any buffers. -/
theorem wp_body (X W : ℕ → ℕ → F .f32) (arg2 : Memref sig .scVector .hbm S2048x1024 .f32) (h2 : arg2.IsWhole) (arg3 : Memref sig .scVector .hbm S56x128 .f32) (h3 : arg3.IsWhole)
    (arg4 : Memref sig .scVector .hbm S114688 .f32) (h4 : arg4.IsWhole) (x : Memref sig .scVector .vmem S64x1024 .f32) (hx : x.IsWhole)
    (w : Memref sig .scVector .vmem S56x128 .f32) (hw : w.IsWhole) (o : Memref sig .scVector .vmem S3584 .f32) (ho : o.IsWhole)
    (s0 : Memref sig .scVector .vmem S256 .f32) (hs0 : s0.IsWhole) (s1 : Memref sig .scVector .vmem S256 .f32) (hs1 : s1.IsWhole)
    (s2 : Memref sig .scVector .vmem S256 .f32) (hs2 : s2.IsWhole) (s3 : Memref sig .scVector .vmem S256 .f32) (hs3 : s3.IsWhole) (r0 r1 r2 : DmaSems sig S_)
    (t : Fin k0_t1_loop.trips) (u : PUnit) :
    TripInv d i X W x w o s0 s1 s2 s3 t.val
      ⊢ wp frame (wpE (defs₀ (F := F)) 𝒱₀ (thr d i) none) Set.univ (k0_t1_body (F := F) i arg2 h2 arg3 h3 arg4 h4 x hx w hw o ho s0 hs0 s1 hs1 s2 hs2 s3 hs3 r0 r1 r2 lanes t u)
          fun _ => TripInv d i X W x w o s0 s1 s2 s3 (t.val + 1) := by
  obtain ⟨⟩ := u
  have e := body_eq (F := F) i arg2 h2 arg3 h3 arg4 h4 x hx w hw o ho s0 hs0 s1 hs1 s2 hs2 s3 hs3 r0 r1 r2 t
  have h : TripInv d i X W x w o s0 s1 s2 s3 t.val
      ⊢ wp frame (wpE (defs₀ (F := F)) 𝒱₀ (thr d i) none) Set.univ (trip x w o s0 s1 s2 s3 t) fun _ => TripInv d i X W x w o s0 s1 s2 s3 (t.val + 1) := by
    iintro H
    iapply (wp_trip d i X W x w o s0 s1 s2 s3 t _) $$ H
    iintro H; iexact H
  rw [← e] at h
  exact h

set_option maxRecDepth 65536 in
set_option maxHeartbeats 4000000 in
theorem tile_body (q : PosShare TreeShare) (hF : (K (F := F)).Facts) (O : CellTallies nD τ sig (HIx 1)) (U : Waits sig (HIx 1)) (hO : ∀ g, O g none = 0) :
    iprop(levAts (K (F := F)).L (K (F := F)).lev ∗ emp
        ∗ tilePts m d q (i 0).val (i 1).val (m (oLoc d))
        ∗ scopedBufs (thr d i) ∗ scopedSems0 (thr d i) ∗ owes (thr d i) O U)
      ⊢ wp frame (wpE (defs₀ (F := F)) 𝒱₀ (thr d i) none) Set.univ
          (cc0__fbl_body i xV (Memref.isWhole_whole _) wV (Memref.isWhole_whole _) oV (Memref.isWhole_whole _)
            bX (Memref.isWhole_whole _) bW (Memref.isWhole_whole _) bO (Memref.isWhole_whole _) b0 (Memref.isWhole_whole _) b1 (Memref.isWhole_whole _)
            b2 (Memref.isWhole_whole _) b3 (Memref.isWhole_whole _) cc0_scoped0 cc0_scoped1 cc0_scoped2)
          fun _ => iprop(tilePts m d q (i 0).val (i 1).val (flat m d)
            ∗ scopedBufs (thr d i) ∗ scopedSems0 (thr d i)
            ∗ ∃ U', ⌜∀ p ∈ U', p ∈ U ∨ p.2 = none⌝ ∗ owes (thr d i) O U') := by
  simp only [cc0__fbl_body_eq_skeleton]; unfold cc0__fbl_body_skel
  rw [(K (F := F)).scopedBufs_V hF d ((i 0).castLE hcore0) ((i 1).castLE hsub0), SparseCore.Cfg.scopedSems0_V (Val := Elt F) d ((i 0).castLE hcore0) ((i 1).castLE hsub0),
    ownSems0_thr, ownBufs_thr]
  iintro ⟨#Hlv, -, ⟨Hx, Hw, Ho⟩, ⟨⟨⟨%fX, HX⟩, ⟨%fW, HW⟩, ⟨%fO, HO⟩, ⟨%f0, H0⟩, ⟨%f1, H1⟩, ⟨%f2, H2⟩, ⟨%f3, H3⟩⟩, Hbufs⟩, ⟨⟨HsA, HsB, HsC⟩, Hsems⟩, Howe⟩
  ihave Hmw := (show levAts (K (F := F)).L (K (F := F)).lev ⊢ Transfers.MayWaits (thr d i) (default : HIx 1) O from
    (K (F := F)).mayWaits_none (thr := thr d i) hO) $$ Hlv
  ihave Ho := (Entails.of_eq (pts_oK (F := F) d i _).symm) $$ Ho
  ihave Hx := (Entails.of_eq (show (xLoc d ↦{q} m (xLoc d) : sProp 𝕄) = (xV).view.loc (thr d i) ↦{q} m (xLoc d) from rfl)) $$ Hx
  ihave Hw := (Entails.of_eq (show (wLoc d ↦{q} m (wLoc d) : sProp 𝕄) = (wV).view.loc (thr d i) ↦{q} m (wLoc d) from rfl)) $$ Hw
  sl_exec
  ihave HX := (held_of d i (b := bX) (View.set_whole _) _) $$ HX
  ihave HX := (Entails.of_eq (congrArg (Held d i bX) (show (bX).view.read (Elt F) (View.write (Elt F) (bX).view fX (tile_body.sl.dma0 m d i) Finset.univ) = _ from read_x m d i fX))) $$ HX
  ihave HW := (held_of d i (b := bW) (View.set_whole _) _) $$ HW
  ihave HW := (Entails.of_eq (congrArg (Held d i bW) (show (bW).view.read (Elt F) (View.write (Elt F) (bW).view fW (tile_body.sl.dma0_1 m d) Finset.univ) = _ from read_w m d i fW))) $$ HW
  ihave HO := (held_of d i (b := bO) (View.set_whole _) _) $$ HO
  ihave H0 := (held_of d i (b := b0) (View.set_whole _) _) $$ H0
  ihave H1 := (held_of d i (b := b1) (View.set_whole _) _) $$ H1
  ihave H2 := (held_of d i (b := b2) (View.set_whole _) _) $$ H2
  ihave H3 := (held_of d i (b := b3) (View.set_whole _) _) $$ H3
  iapply (Scf.wp_for_bind frame (wpE (defs₀ (F := F)) 𝒱₀ (thr d i) none) Set.univ k0_t1_loop.lb k0_t1_loop.ub k0_t1_loop.st k0_t1_ok PUnit.unit
    (k0_t1_body i xV (Memref.isWhole_whole _) wV (Memref.isWhole_whole _) oV (Memref.isWhole_whole _)
            bX (Memref.isWhole_whole _) bW (Memref.isWhole_whole _) bO (Memref.isWhole_whole _) b0 (Memref.isWhole_whole _) b1 (Memref.isWhole_whole _)
            b2 (Memref.isWhole_whole _) b3 (Memref.isWhole_whole _) cc0_scoped0 cc0_scoped1 cc0_scoped2 lanes)
    (fun n _ => TripInv d i (xRow m d i) (wAt m d) bX bW bO b0 b1 b2 b3 n)
    (fun t u => wp_body d i (xRow m d i) (wAt m d) xV (Memref.isWhole_whole _) wV (Memref.isWhole_whole _) oV (Memref.isWhole_whole _)
            bX (Memref.isWhole_whole _) bW (Memref.isWhole_whole _) bO (Memref.isWhole_whole _) b0 (Memref.isWhole_whole _) b1 (Memref.isWhole_whole _)
            b2 (Memref.isWhole_whole _) b3 (Memref.isWhole_whole _) cc0_scoped0 cc0_scoped1 cc0_scoped2 t u)) $$ [HX HW HO H0 H1 H2 H3]
  · unfold TripInv HO HA
    isplitl [HX]; · iexact HX
    isplitl [HW]; · iexact HW
    isplitl [HO]; · iexists _; isplitr; swap; (iexact HO); ipureintro; exact OutOk.zero _ _ _
    isplitl [H0]; · iexists _; iexact H0
    isplitl [H1]; · iexists _; iexact H1
    isplitl [H2]; · iexists _; iexact H2
    iexists _; iexact H3
  iintro %_ H
  unfold TripInv HO HA
  icases H with ⟨HX, HW, ⟨%g, %hg, HO⟩, ⟨%g0, H0⟩, ⟨%g1, H1⟩, ⟨%g2, H2⟩, ⟨%g3, H3⟩⟩
  ihave HX := (of_held d i (b := bX) (View.set_whole _) _) $$ HX
  ihave HW := (of_held d i (b := bW) (View.set_whole _) _) $$ HW
  ihave HO := (of_held d i (b := bO) (View.set_whole _) _) $$ HO
  ihave H0 := (of_held d i (b := b0) (View.set_whole _) _) $$ H0
  ihave H1 := (of_held d i (b := b1) (View.set_whole _) _) $$ H1
  ihave H2 := (of_held d i (b := b2) (View.set_whole _) _) $$ H2
  ihave H3 := (of_held d i (b := b3) (View.set_whole _) _) $$ H3
  icases HX with ⟨%fX', -, HX⟩
  icases HW with ⟨%fW', -, HW⟩
  icases HO with ⟨%fO', %hO', HO⟩
  icases H0 with ⟨%f0', -, H0⟩
  icases H1 with ⟨%f1', -, H1⟩
  icases H2 with ⟨%f2', -, H2⟩
  icases H3 with ⟨%f3', -, H3⟩
  sl_exec
  sl_step
  have hg : OutOk (xRow m d i) (wAt m d) 56 0 g := trips_eq ▸ hg
  ihave Ho := (Entails.of_eq (pointsTo_congr (write_o m d i _ g (View.read_writes_whole _ _ _ |>.trans hO') hg))) $$ Ho
  ihave Ho := (Entails.of_eq (pts_oK (F := F) d i _)) $$ Ho
  isplitl [Hx Hw Ho]
  · isplitl [Hx]; · iexact Hx
    isplitl [Hw]; · iexact Hw
    iexact Ho
  isplitl [HX HW HO H0 H1 H2 H3 Hbufs]
  · isplitr [Hbufs]
    · isplitl [HX]; · iexists _; iexact HX
      isplitl [HW]; · iexists _; iexact HW
      isplitl [HO]; · iexists _; iexact HO
      isplitl [H0]; · iexists _; iexact H0
      isplitl [H1]; · iexists _; iexact H1
      isplitl [H2]; · iexists _; iexact H2
      iexists _; iexact H3
    iexact Hbufs
  isplitl [HsA HsB HsC Hsems]
  · isplitr [Hsems]
    · isplitl [HsA]; · iexact HsA
      isplitl [HsB]; · iexact HsB
      iexact HsC
    iexact Hsems
  iexists _; isplitr
  swap; · iexact Howe
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof

end
-- ==== Proof.Launch.lean ====
/-
  The launch: each SparseCore is handed a half share of `x` and of the weights and every second stretch of the flat
  result, each of its tiles a sixteenth of those shares and one stretch. The tiles bring the stretches back at the totals,
  the host reshapes them, and the program's run ends with the arguments as they were, the reshaped totals in the result
  and every semaphore at zero. For any floats.
-/
module

public import proofs.«01_k».proof.Proof.Tile
public import Idealize.ShloMosaic.Lib.ShareLeaves

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The shares and the stretches -/

/-- SparseCore `c`'s half, and tile `s`'s sixteenth of it. -/
def coreQ (c : ℕ) : PosShare TreeShare := leaf 1 fullShare ⟨c % 2, Nat.mod_lt _ (by decide)⟩
def tileQ (c s : ℕ) : PosShare TreeShare := leaf 4 (coreQ c) ⟨s % 16, Nat.mod_lt _ (by decide)⟩

/-- The stretches of SparseCore `c`'s tiles. -/
def coreSet (c : ℕ) : Finset S114688.Idx := Finset.univ.filter fun y => (y 0).val / 3584 % 2 = c

theorem coreSet_eq (c : Fin 2) : coreSet c.val = (Finset.univ : Finset (Fin 16)).biUnion fun s => tileSet c.val s.val := by
  ext y
  have hy : (y 0).val < 114688 := (y 0).isLt
  simp only [coreSet, tileSet, Finset.mem_filter, Finset.mem_biUnion, Finset.mem_univ, true_and]
  constructor
  · intro h
    exact ⟨⟨(y 0).val / 3584 / 2, by omega⟩, by show _ = 2 * ((y 0).val / 3584 / 2) + c.val; omega⟩
  · rintro ⟨s, h⟩
    omega

theorem univ_eq : (Finset.univ : Finset S114688.Idx) = (Finset.univ : Finset (Fin 2)).biUnion fun c => coreSet c.val := by
  ext y
  simp only [coreSet, Finset.mem_filter, Finset.mem_biUnion, Finset.mem_univ, true_and, true_iff]
  exact ⟨⟨(y 0).val / 3584 % 2, Nat.mod_lt _ (by decide)⟩, rfl⟩

theorem tileSet_disjoint (c : ℕ) : ∀ s ∈ (Finset.univ : Finset (Fin 16)), ∀ s' ∈ (Finset.univ : Finset (Fin 16)), s ≠ s' → Disjoint (tileSet c s.val) (tileSet c s'.val) := by
  intro s _ s' _ h
  refine Finset.disjoint_left.mpr fun y hy hy' => h (Fin.ext ?_)
  have e := (Finset.mem_filter.mp hy).2
  have e' := (Finset.mem_filter.mp hy').2
  omega

theorem coreSet_disjoint : ∀ c ∈ (Finset.univ : Finset (Fin 2)), ∀ c' ∈ (Finset.univ : Finset (Fin 2)), c ≠ c' → Disjoint (coreSet c.val) (coreSet c'.val) := by
  intro c _ c' _ h
  refine Finset.disjoint_left.mpr fun y hy hy' => h (Fin.ext ?_)
  exact (Finset.mem_filter.mp hy).2.symm.trans (Finset.mem_filter.mp hy').2

variable [FloatOps F] (m : (ℓ : Loc nD τ sig) → Buf (Elt F) ℓ) (ρ : Dev nD → PrngReg)

/-- What SparseCore `c` is handed. -/
abbrev corePts (d : Dev nD) (c : ℕ) (f : Buf (Elt F) (oLoc d)) : sProp 𝕄 :=
  iprop((xLoc d ↦{coreQ c} m (xLoc d)) ∗ (wLoc d ↦{coreQ c} m (wLoc d)) ∗ oLoc d ↦[coreSet c]{fullShare} f)

/-- A read share is its sixteenths, -/
theorem share_tiles {ℓ : Loc nD τ sig} (g : Buf (Elt F) ℓ) (c : ℕ) :
    (ℓ ↦{coreQ c} g : sProp 𝕄) = bigSep Finset.univ fun s : Fin 16 => ℓ ↦{tileQ c s.val} g := by
  rw [pointsTo_leaves Finset.univ g 4 (coreQ c)]
  refine bigSep_congr fun s _ => ?_
  unfold tileQ
  rw [show (⟨s.val % 16, Nat.mod_lt _ (by decide)⟩ : Fin (2 ^ 4)) = s from Fin.ext (Nat.mod_eq_of_lt s.isLt)]

/-- and the whole its halves. -/
theorem share_cores {ℓ : Loc nD τ sig} (g : Buf (Elt F) ℓ) :
    (ℓ ↦{fullShare} g : sProp 𝕄) = bigSep Finset.univ fun c : Fin 2 => ℓ ↦{coreQ c.val} g := by
  rw [pointsTo_leaves Finset.univ g 1 fullShare]
  refine bigSep_congr fun c _ => ?_
  unfold coreQ
  rw [show (⟨c.val % 2, Nat.mod_lt _ (by decide)⟩ : Fin (2 ^ 1)) = c from Fin.ext (Nat.mod_eq_of_lt c.isLt)]

theorem core_tiles (d : Dev nD) (c : Fin 2) (f : Buf (Elt F) (oLoc d)) :
    (corePts m d c.val f : sProp 𝕄) = bigSep Finset.univ fun s : Fin 16 => tilePts m d (tileQ c.val s.val) c.val s.val f := by
  rw [bigSep_sep', bigSep_sep', ← share_tiles, ← share_tiles, ← pointsTo_biUnion Finset.univ (ℓ := oLoc d) (fun s : Fin 16 => tileSet c.val s.val) (tileSet_disjoint c.val),
    ← coreSet_eq]

theorem all_cores (d : Dev nD) (f : Buf (Elt F) (oLoc d)) :
    (iprop((xLoc d ↦{fullShare} m (xLoc d)) ∗ (wLoc d ↦{fullShare} m (wLoc d)) ∗ oLoc d ↦{fullShare} f) : sProp 𝕄)
      = bigSep Finset.univ fun c : Fin 2 => corePts m d c.val f := by
  rw [bigSep_sep', bigSep_sep', ← share_cores, ← share_cores, ← pointsTo_biUnion Finset.univ (ℓ := oLoc d) (fun c : Fin 2 => coreSet c.val) coreSet_disjoint,
    ← univ_eq]

/-! ## What the handshakes carry -/

def P : (K (F := F)).Pay (nD := nD) (Val := Elt F) (Name := ℕ) (U := UU) where
  st := fun _ d c => corePts m d c.val (m (oLoc d))
  dn := fun _ d c => corePts m d c.val (flat m d)
  go := fun _ d c s => tilePts m d (tileQ c.val s.val) c.val s.val (m (oLoc d))
  td := fun _ d c s => tilePts m d (tileQ c.val s.val) c.val s.val (flat m d)
  x := fun _ _ => iprop(emp)

instance P_storable : (P (F := F) m).IsStorable where
  st _ d c := (inferInstance : BI.Storable (upEmb : UEmb _ 𝕄) (corePts m d c.val (m (oLoc d))))
  dn _ d c := (inferInstance : BI.Storable (upEmb : UEmb _ 𝕄) (corePts m d c.val (flat m d)))
  go _ d c s := (inferInstance : BI.Storable (upEmb : UEmb _ 𝕄) (tilePts m d (tileQ c.val s.val) c.val s.val (m (oLoc d))))
  td _ d c s := (inferInstance : BI.Storable (upEmb : UEmb _ 𝕄) (tilePts m d (tileQ c.val s.val) c.val s.val (flat m d)))

theorem vecSplit : (K (F := F)).VecSplit' (P m) 0 := by
  intro d c
  show (corePts m d c.val (m (oLoc d)) : sProp 𝕄) ⊢ |={Set.univ}=> iprop(
      (bigSep Finset.univ fun s : Fin 16 => tilePts m d (tileQ c.val s.val) c.val s.val (m (oLoc d)))
      ∗ ((bigSep Finset.univ fun s : Fin 16 => tilePts m d (tileQ c.val s.val) c.val s.val (flat m d)) -∗ corePts m d c.val (flat m d)))
  rw [← core_tiles m d c, ← core_tiles m d c]
  iintro H; imodintro
  isplitl [H]; · iexact H
  iintro H; iexact H

/-! ## The tiles' obligation -/

def coords (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__fbl_body (coords c s)
          xV (Memref.isWhole_whole _) wV (Memref.isWhole_whole _) oV (Memref.isWhole_whole _)
          bX (Memref.isWhole_whole _) bW (Memref.isWhole_whole _) bO (Memref.isWhole_whole _) b0 (Memref.isWhole_whole _) b1 (Memref.isWhole_whole _)
          b2 (Memref.isWhole_whole _) b3 (Memref.isWhole_whole _) cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact (tile_body m d (coords ⟨_, hcs.1⟩ ⟨_, hcs.2⟩) (tileQ c.val s.val) facts O W hO).trans (wp_mono frame _ _ fun _ => obl_post)

/-! ## The launch element of the ghost state: the handshakes' rounds -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host's program -/

abbrev zLoc (d : Dev nD) : Loc nD τ sig := (SparseCore.T d).loc main_arg2
abbrev rLoc (d : Dev nD) : Loc nD τ sig := (SparseCore.T d).loc main_v1
abbrev x' : DevRef τ sig := Proc.devRef .tc (main_arg0 : Ref sig .tc)
abbrev w' : DevRef τ sig := Proc.devRef .tc (main_arg1 : Ref sig .tc)
abbrev z' : DevRef τ sig := Proc.devRef .tc (main_arg2 : Ref sig .tc)
abbrev o' : DevRef τ sig := Proc.devRef .tc (main_v0 : Ref sig .tc)
abbrev r' : DevRef τ sig := Proc.devRef .tc (main_v1 : Ref sig .tc)
abbrev opR : HloOp τ sig (Elt F) := StableHlo.reshape main_v0 main_v1 (rfl : (.f32 : EltTy) = .f32) Facts₀.shapeCasts_S114688_S2048x56

/-- The result: the flat totals, reshaped. -/
def res (d : Dev nD) : Buf (Elt F) (rLoc d) := shapeCast (α := Elt F .f32) (s := S114688) S2048x56 (flat m d) Facts₀.shapeCasts_S114688_S2048x56

/-- The host's arrays. -/
abbrev S5 : Finset (DevRef τ sig) := {x', w', z', o', r'}

theorem held_S5 (d : Dev nD) (W : Valuation τ sig (Elt F)) :
    (held (T d) S5 W : sProp 𝕄) = iprop((xLoc d ↦{fullShare} W x') ∗ (wLoc d ↦{fullShare} W w') ∗ (zLoc d ↦{fullShare} W z') ∗ (oLoc d ↦{fullShare} W o') ∗ rLoc d ↦{fullShare} W r') := by
  unfold held S5
  rw [SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (zLoc d ↦{fullShare} W main_arg2)
      ∗ (oLoc d ↦{fullShare} W main_v0) ∗ rLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide), SparseCore.bigSep_insert' (by decide), bigSep_singleton]

/-- The arrays once the call is back. -/
def V1 (d : Dev nD) : Valuation τ sig (Elt F) := Function.update (fun b => m (d, b)) o' (flat m d)

theorem V1_o (d : Dev nD) : V1 m d o' = flat m d := Function.update_self _ _ _
theorem V1_ne (d : Dev nD) {b : DevRef τ sig} (h : b ≠ o') : V1 m d b = m (d, b) := Function.update_of_ne h _ _

/-- What the host leaves: the arguments as they were, and the result. -/
abbrev FIN (d : Dev nD) : sProp 𝕄 :=
  iprop((xLoc d ↦{fullShare} m (xLoc d)) ∗ (wLoc d ↦{fullShare} m (wLoc d)) ∗ (zLoc d ↦{fullShare} m (zLoc d)) ∗ rLoc d ↦{fullShare} res m d)

theorem opR_r (d : Dev nD) : (opR (F := F)).result (V1 m d) r' = res m d := by
  refine (StableHlo.reshape_result main_v0 main_v1 _ _ _ _ (V1 m d)).trans ?_
  rw [V1_o]; rfl

theorem held_V2 (d : Dev nD) :
    (held (T d) S5 ((opR (F := F)).result (V1 m d)) : sProp 𝕄)
      = iprop((xLoc d ↦{fullShare} m (xLoc d)) ∗ (wLoc d ↦{fullShare} m (wLoc d)) ∗ (zLoc d ↦{fullShare} m (zLoc d)) ∗ (oLoc d ↦{fullShare} flat m d) ∗ rLoc d ↦{fullShare} res m d) := by
  rw [held_S5, opR_r, (opR (F := F)).result_of_not_mem (V1 m d) (b := x') (show x' ∉ ({r'} : Finset (DevRef τ sig)) by decide),
    (opR (F := F)).result_of_not_mem (V1 m d) (b := w') (show w' ∉ ({r'} : Finset (DevRef τ sig)) by decide),
    (opR (F := F)).result_of_not_mem (V1 m d) (b := z') (show z' ∉ ({r'} : Finset (DevRef τ sig)) by decide),
    (opR (F := F)).result_of_not_mem (V1 m d) (b := o') (show o' ∉ ({r'} : Finset (DevRef τ sig)) by decide),
    V1_o, V1_ne m d (show x' ≠ o' by decide), V1_ne m d (show w' ≠ o' by decide), V1_ne m d (show z' ≠ o' by decide)]

theorem hR : (opR (F := F)).bufs ⊆ S5 := show ({o', r'} : Finset (DevRef τ sig)) ⊆ S5 by decide

/-- What the call takes, and what it hands back. -/
theorem st_all (d : Dev nD) : (bigSep Finset.univ fun c : Fin ((K (F := F)).nCore 0) => (P m).st 0 d c)
    = iprop((xLoc d ↦{fullShare} m (xLoc d)) ∗ (wLoc d ↦{fullShare} m (wLoc d)) ∗ oLoc d ↦{fullShare} m (oLoc d)) := (all_cores m d (m (oLoc d))).symm
theorem dn_all (d : Dev nD) : (bigSep Finset.univ fun c : Fin ((K (F := F)).nCore 0) => (P m).dn 0 d c)
    = iprop((xLoc d ↦{fullShare} m (xLoc d)) ∗ (wLoc d ↦{fullShare} m (wLoc d)) ∗ oLoc d ↦{fullShare} flat m d) := (all_cores m d (flat m d)).symm

/-- The call, then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hz, Ho, Hr⟩, Hts, -⟩, -⟩
  iapply ((K (F := F)).wp_run (D (F := F)) 𝒱 (EH := EH) (P := P m) κ d 0) $$ [Hst Hx Hw Hz Ho Hr Hb Hts]
  isplitr; · iexact Hctx
  isplitl [Hst]; · iexact Hst
  isplitl [Hx Hw Ho]
  · iapply (Entails.of_eq (st_all m d).symm)
    isplitl [Hx]; · iexact Hx
    isplitl [Hw]; · iexact Hw
    iexact Ho
  iintro ⟨Hst, Hdn⟩
  ihave Hdn := (Entails.of_eq (dn_all m d)) $$ Hdn
  icases Hdn with ⟨Hx, Hw, Ho⟩
  iapply (wp_hlo_within 𝒱 (SparseCore.T d) none Set.univ (op := opR) (S := S5) hR (V := V1 m d)) $$ [Hb Hx Hw Hz Ho Hr]
  · isplitl [Hb]; · iexact Hb
    rw [held_S5, V1_o, V1_ne m d (show x' ≠ o' by decide), V1_ne m d (show w' ≠ o' by decide), V1_ne m d (show z' ≠ o' by decide), V1_ne m d (show r' ≠ o' by decide)]
    isplitl [Hx]; · iexact Hx
    isplitl [Hw]; · iexact Hw
    isplitl [Hz]; · iexact Hz
    isplitl [Ho]; · iexact Ho
    iexact Hr
  iintro ⟨Hb, Hheld⟩
  ihave Hh := (Entails.of_eq (held_V2 (F := F) m d)) $$ Hheld
  icases Hh with ⟨Hx, Hw, Hz, -, Hr⟩
  rw [wp_ret]; imodintro; imodintro
  isplitl [Hst]; · iexact Hst
  isplitr [Hb Hts]
  · isplitl [Hx]; · iexact Hx
    isplitl [Hw]; · iexact Hw
    isplitl [Hz]; · iexact Hz
    iexact Hr
  isplitl [Hb] <;> iassumption

/-- What the end is to be, -/
def fq (d : Dev nD) (s' : Phys nD τ sig (Elt F)) : Prop :=
  s'.mem.mem (xLoc d) = m (xLoc d) ∧ s'.mem.mem (wLoc d) = m (wLoc d) ∧ s'.mem.mem (zLoc d) = m (zLoc d) ∧ s'.mem.mem (rLoc d) = res m d

/-- held against the machine's state. -/
theorem agree (s' : Phys nD τ sig (Elt F)) {ℓ : Loc nD τ sig} (f : Buf (Elt F) ℓ) :
    (iprop(SI s' ∗ ℓ ↦{fullShare} f) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr; · ipureintro; exact funext fun y => h y (Finset.mem_univ y)
  iexact HSI

theorem hfin (d : Dev nD) (s' : Phys nD τ sig (Elt F)) : iprop(FIN m d ∗ SI s') ⊢ (⌜fq m d s'⌝ : sProp 𝕄) := by
  iintro ⟨⟨Hx, Hw, Hz, Hr⟩, HSI⟩
  ihave H := (agree s' (m (xLoc d))) $$ [HSI Hx]; · isplitl [HSI] <;> iassumption
  icases H with ⟨%hx, HSI⟩
  ihave H := (agree s' (m (wLoc d))) $$ [HSI Hw]; · isplitl [HSI] <;> iassumption
  icases H with ⟨%hw, HSI⟩
  ihave H := (agree s' (m (zLoc d))) $$ [HSI Hz]; · isplitl [HSI] <;> iassumption
  icases H with ⟨%hz, HSI⟩
  ihave H := (agree s' (res m d)) $$ [HSI Hr]; · isplitl [HSI] <;> iassumption
  icases H with ⟨%hr, -⟩
  ipureintro; exact ⟨hx, hw, hz, hr⟩

/-! ## The run -/

def QC : PUnit × MemSt nD τ sig (Elt F) → Prop := fun r =>
  (∀ d : Dev nD, r.2.mem (xLoc d) = m (xLoc d) ∧ r.2.mem (wLoc d) = m (wLoc d) ∧ r.2.mem (zLoc d) = m (zLoc d) ∧ r.2.mem (rLoc d) = res m d) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Ref.lean ====
/-
  The reference's result at an index, over the extended reals: its products against the selection matrix, weighted and
  summed, are the kernel's totals when the matrix is the selection the precondition says.
-/
module

public import proofs.«01_k».proof.Proof.Value
public import proofs.«01_k».proof.Proof.Gen.ReferenceIdeal
public import proofs.«01_k».proof.Proof.Gen.Pre_is_fbank
public import Idealize.ShloMosaic.Lib.Pointwise
public import Idealize.ShloMosaic.Lib.IdealHost
public import Idealize.ShloMosaic.Lib.ReduceAll

@[expose] public section

noncomputable section

namespace Cert.Proof

open Idealize.ShloMosaic
open Cert.ReferenceIdeal Cert.ReferenceIdeal.Gen

/-- The reference's result out of its arguments. -/
def refOut (A : FVec Ideal S2048x1024 .f32) (W : FVec Ideal S56x128 .f32) (Z : FVec Ideal S56x128x1024 .f32) : FVec Ideal S2048x56 .f32 :=
  Host.reduceAdd (mulf (shapeCast S2048x56x128 (transpose S2048x7168 [1, 0] (Host.dotGeneral dot_S7168x1024_S1024x2048_S7168x2048_1_0_0_1_n_n none
      (shapeCast S7168x1024 Z shapeCasts_S56x128x1024_S7168x1024) (transpose S1024x2048 [1, 0] A transposes_S2048x1024_S1024x2048_1_0))
      transposes_S7168x2048_S2048x7168_1_0) shapeCasts_S2048x7168_S2048x56x128)
    (broadcastInDim S2048x56x128 ![0, 1, 2] bcast_S1x56x128_S2048x56x128_0_1_2 (broadcastInDim S1x56x128 ![1, 2] bcast_S56x128_S1x56x128_1_2 W)))
    (constant S_ .f32 0x00000000#32) reducesTo_S2048x56x128_S2048x56_d2 h_S_

theorem refOut_apply (A : FVec Ideal S2048x1024 .f32) (W : FVec Ideal S56x128 .f32) (Z : FVec Ideal S56x128x1024 .f32) (b : Fin 2048) (n : Fin 56) :
    refOut A W Z (ix2 b n) = ∑ k : Fin 128, (∑ i : Fin 1024, Z (ix3 n k i) * A (ix2 b i)) * W (ix2 n k) := by
  pointwise [refOut]

/-- Where filter `n`'s window starts, as the precondition computes it. -/
theorem start_word (n : Fin 56) :
    Scalar.select (IntOp.cmpi .eq (IntOp.shrui .host (BitVec.ofNat 32 n.val) 2#32) 13#32) 896#32 (IntOp.muli 64#32 (IntOp.shrui .host (BitVec.ofNat 32 n.val) 2#32))
      = BitVec.ofNat 32 (start (n.val / 4)) := by
  revert n; decide

/-- The precondition at an index: the matrix selects column `start (n / 4) + k`. -/
theorem pre_apply (A : FVec Ideal S2048x1024 .f32) (W : FVec Ideal S56x128 .f32) (Z : FVec Ideal S56x128x1024 .f32)
    (h : Cert.Pre_is_fbank.fn (F := Ideal) A W Z = fun _ => 1#1) (n : Fin 56) (k : Fin 128) (i : Fin 1024) :
    Z (ix3 n k i) = if i.val = start (n.val / 4) + k.val then (1 : EReal) else 0 := by
  haveI : Subsingleton Cert.Pre_is_fbank.S_.Idx := ⟨fun a b => funext fun x => x.elim0⟩
  have h1 : Ideal.cmp .oeq (Z (ix3 n k i)) (Scalar.select (IntOp.cmpi .eq (BitVec.ofNat 32 i.val) (IntOp.addi
      (Scalar.select (IntOp.cmpi .eq (IntOp.shrui .host (BitVec.ofNat 32 n.val) 2#32) 13#32) 896#32 (IntOp.muli 64#32 (IntOp.shrui .host (BitVec.ofNat 32 n.val) 2#32)))
      (BitVec.ofNat 32 k.val))) (Ideal.ofBits .f32 0x3F800000#32) (Ideal.ofBits .f32 0x00000000#32)) = 1#1 :=
    Host.reduce_andi_all _ _ _ _ ix0 (congrFun h ix0) (ix3 n k i)
  rw [start_word] at h1
  have h2 : Z (ix3 n k i) = Scalar.select (IntOp.cmpi .eq (BitVec.ofNat 32 i.val) (IntOp.addi (BitVec.ofNat 32 (start (n.val / 4))) (BitVec.ofNat 32 k.val)))
      (Ideal.ofBits .f32 0x3F800000#32) (Ideal.ofBits .f32 0x00000000#32) := by
    by_contra hne
    rw [Ideal.cmp, decide_eq_false hne] at h1
    exact absurd h1 (by decide)
  rw [h2, Ideal.ofBits_one_f32, Ideal.ofBits_zero_f32]
  have hs : start (n.val / 4) ≤ 896 := start_le (by have := n.isLt; omega)
  have hk := k.isLt
  have hi := i.isLt
  have e : (IntOp.cmpi .eq (BitVec.ofNat 32 i.val) (IntOp.addi (BitVec.ofNat 32 (start (n.val / 4))) (BitVec.ofNat 32 k.val)) = 1#1) ↔ i.val = start (n.val / 4) + k.val := by
    rw [IntOp.cmpi_eq, ← BitVec.toNat_inj]
    simp only [IntOp.addi, BitVec.toNat_add, BitVec.toNat_ofNat]
    omega
  unfold Scalar.select
  exact if_congr e rfl rfl

/-! ## The totals as sums -/

theorem sumTo_eq (p : ℕ → Ideal .f32) (m : ℕ) : (sumTo p m : EReal) = ∑ k ∈ Finset.range (m + 1), (p k : EReal) := by
  induction m with
  | zero => simp [sumTo]
  | succ m ih => rw [Finset.sum_range_succ, ← ih]; rfl

/-- Eight chunks of sixteen lanes, lane by lane, are the hundred and twenty-eight words. -/
theorem sum_lanes (f : ℕ → EReal) : (∑ l ∈ Finset.range 16, ∑ c ∈ Finset.range 8, f (16 * c + l)) = ∑ k : Fin 128, f k.val := by
  rw [Finset.sum_comm, Finset.sum_range, ← Equiv.sum_comp (finProdFinEquiv : Fin 8 × Fin 16 ≃ Fin 128), Fintype.sum_prod_type]
  refine Finset.sum_congr rfl fun c _ => ?_
  rw [Finset.sum_range]
  exact Finset.sum_congr rfl fun l _ => congrArg f (Nat.add_comm _ _)

theorem total_eq (X W : ℕ → ℕ → Ideal .f32) (r n : ℕ) :
    (total X W r n : EReal) = ∑ k : Fin 128, (X r (start (n / 4) + k.val) : EReal) * W n k.val := by
  unfold total
  rw [sumTo_eq, ← sum_lanes fun k => (X r (start (n / 4) + k) : EReal) * W n k]
  refine Finset.sum_congr rfl fun l _ => ?_
  unfold part
  rw [sumTo_eq]
  refine Finset.sum_congr rfl fun c _ => ?_
  rw [← Nat.add_assoc]; rfl

/-- The reference's result is the kernel's totals. -/
theorem refOut_total (A : FVec Ideal S2048x1024 .f32) (W : FVec Ideal S56x128 .f32) (Z : FVec Ideal S56x128x1024 .f32)
    (h : Cert.Pre_is_fbank.fn (F := Ideal) A W Z = fun _ => 1#1) (b : Fin 2048) (n : Fin 56) :
    refOut A W Z (ix2 b n) = total (nat2 (a := 2047) (b := 1023) A) (nat2 (a := 55) (b := 127) W) b.val n.val := by
  rw [refOut_apply]
  refine Eq.trans ?_ (total_eq _ _ _ _).symm
  refine Finset.sum_congr rfl fun k _ => ?_
  have hs : start (n.val / 4) ≤ 896 := start_le (by have := n.isLt; omega)
  have hk := k.isLt
  have e : (∑ i : Fin 1024, Z (ix3 n k i) * A (ix2 b i) : EReal) = A (ix2 b ⟨start (n.val / 4) + k.val, by omega⟩) := by
    rw [Finset.sum_eq_single (⟨start (n.val / 4) + k.val, by omega⟩ : Fin 1024)]
    · rw [pre_apply A W Z h, if_pos rfl, one_mul]
    · intro i _ hi
      rw [pre_apply A W Z h, if_neg fun e => hi (Fin.ext e), zero_mul]
    · exact fun hn => absurd (Finset.mem_univ _) hn
  rw [e]
  exact congrArg₂ (fun p q : EReal => p * q) (nat2_idx (a := 2047) (b := 1023) A (ix2 b ⟨start (n.val / 4) + k.val, by omega⟩)).symm
    (nat2_idx (a := 55) (b := 127) W (ix2 n k)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Ref
public import proofs.«01_k».proof.Proof.Gen.Pre_is_fbank
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g _ =>
  (θ_run Cert.KernelIdeal.defs _ _).mono (fun _ h => ⟨fun c => ⟨(h.1 c).1, (h.1 c).2.1, (h.1 c).2.2.1⟩, h.2⟩) (run_main (F := Bits) m g)

theorem frame_ideal : Cert.quiescent_KernelIdeal := fun m g _ =>
  (θ_run Cert.KernelIdeal.defs _ _).mono (fun _ h => ⟨fun c => ⟨(h.1 c).1, (h.1 c).2.1, (h.1 c).2.2.1⟩, h.2⟩) (run_main (F := Ideal) m g)

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The result at an index: the total of its row and filter. -/
theorem res_apply (m : (ℓ : Loc Cert.KernelIdeal.nD Cert.KernelIdeal.τ Cert.KernelIdeal.sig) → Buf (Elt Ideal) ℓ) (d : Dev Cert.KernelIdeal.nD) (b : Fin 2048) (n : Fin 56) :
    res m d (ix2 b n) = total (xAt m d) (wAt m d) b.val n.val := by
  have hb := b.isLt
  have hn := n.isLt
  unfold res shapeCast
  rw [show (Shape.reshapeEquiv (s := Cert.KernelIdeal.S114688) (s' := Cert.KernelIdeal.S2048x56) Cert.KernelIdeal.Facts₀.shapeCasts_S114688_S2048x56 (ix2 b n) : Cert.KernelIdeal.S114688.Idx)
    = ix1 ⟨56 * b.val + n.val, by omega⟩ from Shape.reshapeEquiv_eq_of_rowMajor _ (by
      rw [Shape.rowMajor_val_two, Shape.rowMajor_val_one]
      show 56 * b.val + n.val = b.val * 56 + n.val
      omega)]
  show total (xAt m d) (wAt m d) ((56 * b.val + n.val) / 56) ((56 * b.val + n.val) % 56) = _
  rw [show (56 * b.val + n.val) / 56 = b.val by omega, show (56 * b.val + n.val) % 56 = n.val by omega]

theorem value : Cert.algebraic_KernelIdeal_ReferenceIdeal_pre_is_fbank := fun m g m' g' hpre hargs => by
  refine ⟨res m, (θ_run Cert.KernelIdeal.defs _ _).mono (fun _ h c => ⟨(h.1 c).2.2.2, (h.1 c).1, (h.1 c).2.1, (h.1 c).2.2.1⟩) (run_main (F := Ideal) m g),
    (θ_run Cert.ReferenceIdeal.defs _ _).mono (fun _ h c => ⟨(h c).1.trans ?_, (h c).2⟩) (Cert.ReferenceIdeal.Value.run m' g')⟩
  obtain ⟨h0, h1, h2⟩ := hargs c
  rw [h0, h1, h2]
  show refOut _ _ _ = res m c
  funext y
  rw [show y = ix2 (y 0) (y 1) from (ix2_eta y).symm]
  exact (refOut_total _ _ _ (hpre c) (y 0) (y 1)).trans (res_apply m c (y 0) (y 1)).symm

theorem claim : Cert.Claim := ⟨Cert.Kernel.Gen.facts, Cert.KernelIdeal.Gen.facts, Cert.ReferenceIdeal.Gen.facts, Cert.Pre_is_fbank.Gen.facts,
  frame_kernel, frame_ideal, fun m g _ => frame_ideal m g trivial, frame_reference, fun m g _ => frame_reference m g trivial, trivial, value⟩

end Cert.Proof

end
